-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x64 : Shape := ⟨2, ![16384, 64]⟩
abbrev S1024x64 : Shape := ⟨2, ![1024, 64]⟩
abbrev S1024 : Shape := ⟨1, ![1024]⟩
abbrev S128x1024 : Shape := ⟨2, ![128, 1024]⟩
abbrev S128 : Shape := ⟨1, ![128]⟩
abbrev S64x1024 : Shape := ⟨2, ![64, 1024]⟩
abbrev S1x1024 : Shape := ⟨2, ![1, 1024]⟩
abbrev S64 : Shape := ⟨1, ![64]⟩
abbrev S1x64 : Shape := ⟨2, ![1, 64]⟩
abbrev S16384x1 : Shape := ⟨2, ![16384, 1]⟩
abbrev S512x64 : Shape := ⟨2, ![512, 64]⟩
abbrev S512x1 : Shape := ⟨2, ![512, 1]⟩
abbrev S512x1024 : Shape := ⟨2, ![512, 1024]⟩
abbrev S1 : Shape := ⟨1, ![1]⟩
abbrev S1x1 : Shape := ⟨2, ![1, 1]⟩
abbrev S512 : Shape := ⟨1, ![512]⟩

abbrev nBuf : Space → Nat
  | .hbm => 19
  | .vmem => 13
  | .smem => 0
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S1024, .f32⟩
  | .hbm, ⟨3, _⟩ => ⟨S128x1024, .f32⟩
  | .hbm, ⟨4, _⟩ => ⟨S128, .f32⟩
  | .hbm, ⟨5, _⟩ => ⟨S1024x64, .f32⟩
  | .hbm, ⟨6, _⟩ => ⟨S128x1024, .f32⟩
  | .hbm, ⟨7, _⟩ => ⟨S1024x64, .f32⟩
  | .hbm, ⟨8, _⟩ => ⟨S64x1024, .f32⟩
  | .hbm, ⟨9, _⟩ => ⟨S128x1024, .f32⟩
  | .hbm, ⟨10, _⟩ => ⟨S64x1024, .f32⟩
  | .hbm, ⟨11, _⟩ => ⟨S64x1024, .f32⟩
  | .hbm, ⟨12, _⟩ => ⟨S1x1024, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S16384x64, .f32⟩
  | .hbm, ⟨18, _⟩ => ⟨S16384x1, .f32⟩
  | .local _ .vmem, ⟨0, _⟩ => ⟨S512x64, .f32⟩
  | .local _ .vmem, ⟨1, _⟩ => ⟨S512x64, .f32⟩
  | .local _ .vmem, ⟨2, _⟩ => ⟨S64x1024, .f32⟩
  | .local _ .vmem, ⟨3, _⟩ => ⟨S1x1024, .f32⟩
  | .local _ .vmem, ⟨4, _⟩ => ⟨S64x1024, .f32⟩
  | .local _ .vmem, ⟨5, _⟩ => ⟨S64x1024, .f32⟩
  | .local _ .vmem, ⟨6, _⟩ => ⟨S1x64, .f32⟩
  | .local _ .vmem, ⟨7, _⟩ => ⟨S1x64, .f32⟩
  | .local _ .vmem, ⟨8, _⟩ => ⟨S512x64, .f32⟩
  | .local _ .vmem, ⟨9, _⟩ => ⟨S512x64, .f32⟩
  | .local _ .vmem, ⟨10, _⟩ => ⟨S512x1, .f32⟩
  | .local _ .vmem, ⟨11, _⟩ => ⟨S512x1, .f32⟩
  | .local _ .vmem, ⟨12, _⟩ => ⟨S512x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c64_i32 : BitVec 32 := 64#32
  let v12 : BitVec 32 := Scalar.addi c0_i32 c64_i32
  let c1_i32 : BitVec 32 := 1#32
  ⟨c0_i32, v12, c1_i32⟩
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let v34 : Index := Scalar.indexCast arg11
  let c0_21 : Index := 0#32
  ![v34.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16384x64 : Shape := ⟨2, ![16384, 64]⟩
abbrev S1024x64 : Shape := ⟨2, ![1024, 64]⟩
abbrev S1024 : Shape := ⟨1, ![1024]⟩
abbrev S128x1024 : Shape := ⟨2, ![128, 1024]⟩
abbrev S128 : Shape := ⟨1, ![128]⟩
abbrev S64 : Shape := ⟨1, ![64]⟩
abbrev S_ : Shape := ⟨0, ![]⟩
abbrev S1x64 : Shape := ⟨2, ![1, 64]⟩
abbrev S1024x1 : Shape := ⟨2, ![1024, 1]⟩
abbrev S1x1024 : Shape := ⟨2, ![1, 1024]⟩
abbrev S64x1 : Shape := ⟨2, ![64, 1]⟩
abbrev S64x1024 : Shape := ⟨2, ![64, 1024]⟩
abbrev S64x2x1024 : Shape := ⟨3, ![64, 2, 1024]⟩
abbrev S16384 : Shape := ⟨1, ![16384]⟩
abbrev S1 : Shape := ⟨1, ![1]⟩
abbrev S16384x1024 : Shape := ⟨2, ![16384, 1024]⟩
abbrev S1024x128 : Shape := ⟨2, ![1024, 128]⟩
abbrev S16384x128 : Shape := ⟨2, ![16384, 128]⟩
abbrev S1x128 : Shape := ⟨2, ![1, 128]⟩
abbrev S16384x1 : Shape := ⟨2, ![16384, 1]⟩

abbrev nBuf : Space → Nat
  | .hbm => 153
  | .vmem => 0
  | .smem => 0
  | _ => 0

abbrev hbmTy0_0 (i : Nat) : BufTy := match i % 128 with
  | 0 => ⟨S16384x64, .f32⟩
  | 1 => ⟨S1024x64, .f32⟩
  | 2 => ⟨S1024, .f32⟩
  | 3 => ⟨S128x1024, .f32⟩
  | 4 => ⟨S128, .f32⟩
  | 5 => ⟨S64, .i32⟩
  | 6 => ⟨S1024, .i32⟩
  | 7 => ⟨S_, .i32⟩
  | 8 => ⟨S1024, .i32⟩
  | 9 => ⟨S1024, .i32⟩
  | 10 => ⟨S1x64, .i32⟩
  | 11 => ⟨S1024x1, .i32⟩
  | 12 => ⟨S1024x64, .i32⟩
  | 13 => ⟨S1024x64, .i32⟩
  | 14 => ⟨S1024x64, .i1⟩
  | 15 => ⟨S1024x64, .f32⟩
  | 16 => ⟨S1x1024, .i32⟩
  | 17 => ⟨S64x1, .i32⟩
  | 18 => ⟨S64x1024, .i32⟩
  | 19 => ⟨S64x1024, .i32⟩
  | 20 => ⟨S64x1024, .i1⟩
  | 21 => ⟨S64x1024, .f32⟩
  | 22 => ⟨S64x2x1024, .f32⟩
  | 23 => ⟨S128x1024, .f32⟩
  | 24 => ⟨S1024x64, .f32⟩
  | 25 => ⟨S128x1024, .f32⟩
  | 26 => ⟨S_, .f32⟩
  | 27 => ⟨S16384x64, .f32⟩
  | 28 => ⟨S_, .f32⟩
  | 29 => ⟨S16384, .f32⟩
  | 30 => ⟨S64, .i32⟩
  | 31 => ⟨S_, .i32⟩
  | 32 => ⟨S64, .i32⟩
  | 33 => ⟨S1024x64, .f32⟩
  | 34 => ⟨S1024, .f32⟩
  | 35 => ⟨S128x1024, .f32⟩
  | 36 => ⟨S128, .f32⟩
  | 37 => ⟨S16384x64, .f32⟩
  | 38 => ⟨S_, .i32⟩
  | 39 => ⟨S16384x64, .f32⟩
  | 40 => ⟨S16384, .f32⟩
  | 41 => ⟨S_, .i32⟩
  | 42 => ⟨S_, .i1⟩
  | 43 => ⟨S1, .i32⟩
  | 44 => ⟨S_, .i32⟩
  | 45 => ⟨S64x1024, .f32⟩
  | 46 => ⟨S16384x1024, .f32⟩
  | 47 => ⟨S1x1024, .f32⟩
  | 48 => ⟨S16384x1024, .f32⟩
  | 49 => ⟨S16384x1024, .f32⟩
  | 50 => ⟨S16384x1024, .f32⟩
  | 51 => ⟨S1024x128, .f32⟩
  | 52 => ⟨S16384x128, .f32⟩
  | 53 => ⟨S1x128, .f32⟩
  | 54 => ⟨S16384x128, .f32⟩
  | 55 => ⟨S16384x128, .f32⟩
  | 56 => ⟨S_, .f32⟩
  | 57 => ⟨S_, .f32⟩
  | 58 => ⟨S_, .f32⟩
  | 59 => ⟨S16384x128, .f32⟩
  | 60 => ⟨S16384x128, .f32⟩
  | 61 => ⟨S_, .f32⟩
  | 62 => ⟨S16384x128, .f32⟩
  | 63 => ⟨S16384x128, .f32⟩
  | 64 => ⟨S16384x64, .f32⟩
  | 65 => ⟨S16384x64, .f32⟩
  | 66 => ⟨S_, .f32⟩
  | 67 => ⟨S_, .f32⟩
  | 68 => ⟨S_, .f32⟩
  | 69 => ⟨S16384x64, .f32⟩
  | 70 => ⟨S16384x64, .f32⟩
  | 71 => ⟨S_, .f32⟩
  | 72 => ⟨S16384x64, .f32⟩
  | 73 => ⟨S16384x64, .f32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S16384x1, .f32⟩
  | 88 => ⟨S16384, .f32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S16384x1, .f32⟩
  | 103 => ⟨S16384, .f32⟩
  | 104 => ⟨S16384, .f32⟩
  | 105 => ⟨S16384, .f32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S16384x1, .f32⟩
  | 120 => ⟨S16384, .f32⟩
  | 121 => ⟨S16384, .f32⟩
  | 122 => ⟨S_, .i32⟩
  | 123 => ⟨S_, .i1⟩
  | 124 => ⟨S_, .i32⟩
  | 125 => ⟨S_, .i32⟩
  | 126 => ⟨S_, .i32⟩
  | 127 => ⟨S1, .i32⟩
  | _ => ⟨S16384x64, .f32⟩

abbrev hbmTy0_1 (i : Nat) : BufTy := match i % 128 with
  | 0 => ⟨S16384x64, .f32⟩
  | 1 => ⟨S16384, .f32⟩
  | 2 => ⟨S_, .i32⟩
  | 3 => ⟨S_, .i32⟩
  | 4 => ⟨S16384x64, .i1⟩
  | 5 => ⟨S16384x64, .f32⟩
  | 6 => ⟨S_, .f32⟩
  | 7 => ⟨S16384x64, .f32⟩
  | 8 => ⟨S16384x64, .i1⟩
  | 9 => ⟨S16384x64, .i1⟩
  | 10 => ⟨S_, .f32⟩
  | 11 => ⟨S_, .f32⟩
  | 12 => ⟨S16384x64, .f32⟩
  | 13 => ⟨S16384x64, .f32⟩
  | 14 => ⟨S16384, .i1⟩
  | 15 => ⟨S16384, .f32⟩
  | 16 => ⟨S_, .f32⟩
  | 17 => ⟨S16384, .f32⟩
  | 18 => ⟨S16384, .i1⟩
  | 19 => ⟨S16384, .i1⟩
  | 20 => ⟨S_, .f32⟩
  | 21 => ⟨S_, .f32⟩
  | 22 => ⟨S16384, .f32⟩
  | 23 => ⟨S16384, .f32⟩
  | 24 => ⟨S16384x1, .f32⟩
  | _ => ⟨S16384x64, .f32⟩

abbrev hbmTy (i : Nat) : BufTy := match i / 128 with
  | 0 => hbmTy0_0 i
  | 1 => hbmTy0_1 i
  | _ => ⟨S16384x64, .f32⟩

abbrev bufTy : (tb : Table) → Fin (tcTables nBuf tb) → BufTy
  | .hbm, ⟨i, _⟩ => hbmTy i
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev main_v23_6 : Ref sig .tc := ⟨.hbm, 38, rfl⟩
abbrev main_v23_7 : Ref sig .tc := ⟨.hbm, 39, rfl⟩
abbrev main_v23_8 : Ref sig .tc := ⟨.hbm, 40, rfl⟩
abbrev main_while0c_c_12 : Ref sig .tc := ⟨.hbm, 41, rfl⟩
abbrev main_while0c_v33 : Ref sig .tc := ⟨.hbm, 42, rfl⟩
abbrev main_while0b_call0_v0 : Ref sig .tc := ⟨.hbm, 43, rfl⟩
abbrev main_while0b_v33 : Ref sig .tc := ⟨.hbm, 44, rfl⟩
abbrev main_while0b_v34 : Ref sig .tc := ⟨.hbm, 45, rfl⟩
abbrev main_while0b_v35 : Ref sig .tc := ⟨.hbm, 46, rfl⟩
abbrev main_while0b_v36 : Ref sig .tc := ⟨.hbm, 47, rfl⟩
abbrev main_while0b_v37 : Ref sig .tc := ⟨.hbm, 48, rfl⟩
abbrev main_while0b_v38 : Ref sig .tc := ⟨.hbm, 49, rfl⟩
abbrev main_while0b_v39 : Ref sig .tc := ⟨.hbm, 50, rfl⟩
abbrev main_while0b_v40 : Ref sig .tc := ⟨.hbm, 51, rfl⟩
abbrev main_while0b_v41 : Ref sig .tc := ⟨.hbm, 52, rfl⟩
abbrev main_while0b_v42 : Ref sig .tc := ⟨.hbm, 53, rfl⟩
abbrev main_while0b_v43 : Ref sig .tc := ⟨.hbm, 54, rfl⟩
abbrev main_while0b_v44 : Ref sig .tc := ⟨.hbm, 55, rfl⟩
abbrev main_while0b_cst_12 : Ref sig .tc := ⟨.hbm, 56, rfl⟩
abbrev main_while0b_cst_13 : Ref sig .tc := ⟨.hbm, 57, rfl⟩
abbrev main_while0b_call1_v0 : Ref sig .tc := ⟨.hbm, 58, rfl⟩
abbrev main_while0b_call1_v1 : Ref sig .tc := ⟨.hbm, 59, rfl⟩
abbrev main_while0b_call1_v2 : Ref sig .tc := ⟨.hbm, 60, rfl⟩
abbrev main_while0b_call1_v3 : Ref sig .tc := ⟨.hbm, 61, rfl⟩
abbrev main_while0b_call1_v4 : Ref sig .tc := ⟨.hbm, 62, rfl⟩
abbrev main_while0b_v45 : Ref sig .tc := ⟨.hbm, 63, rfl⟩
abbrev main_while0b_v46 : Ref sig .tc := ⟨.hbm, 64, rfl⟩
abbrev main_while0b_v47 : Ref sig .tc := ⟨.hbm, 65, rfl⟩
abbrev main_while0b_cst_14 : Ref sig .tc := ⟨.hbm, 66, rfl⟩
abbrev main_while0b_cst_15 : Ref sig .tc := ⟨.hbm, 67, rfl⟩
abbrev main_while0b_call2_v0 : Ref sig .tc := ⟨.hbm, 68, rfl⟩
abbrev main_while0b_call2_v1 : Ref sig .tc := ⟨.hbm, 69, rfl⟩
abbrev main_while0b_call2_v2 : Ref sig .tc := ⟨.hbm, 70, rfl⟩
abbrev main_while0b_call2_v3 : Ref sig .tc := ⟨.hbm, 71, rfl⟩
abbrev main_while0b_call2_v4 : Ref sig .tc := ⟨.hbm, 72, rfl⟩
abbrev main_while0b_v48 : Ref sig .tc := ⟨.hbm, 73, rfl⟩
abbrev main_while0b_c_16 : Ref sig .tc := ⟨.hbm, 74, rfl⟩
abbrev main_while0b_c_17 : Ref sig .tc := ⟨.hbm, 75, rfl⟩
abbrev main_while0b_v49 : Ref sig .tc := ⟨.hbm, 76, rfl⟩
abbrev main_while0b_c_18 : Ref sig .tc := ⟨.hbm, 77, rfl⟩
abbrev main_while0b_c_19 : Ref sig .tc := ⟨.hbm, 78, rfl⟩
abbrev main_while0b_v50 : Ref sig .tc := ⟨.hbm, 79, rfl⟩
abbrev main_while0b_c_20 : Ref sig .tc := ⟨.hbm, 80, rfl⟩
abbrev main_while0b_v51 : Ref sig .tc := ⟨.hbm, 81, rfl⟩
abbrev main_while0b_c_21 : Ref sig .tc := ⟨.hbm, 82, rfl⟩
abbrev main_while0b_v52 : Ref sig .tc := ⟨.hbm, 83, rfl⟩
abbrev main_while0b_c_22 : Ref sig .tc := ⟨.hbm, 84, rfl⟩
abbrev main_while0b_v53 : Ref sig .tc := ⟨.hbm, 85, rfl⟩
abbrev main_while0b_v54 : Ref sig .tc := ⟨.hbm, 86, rfl⟩
abbrev main_while0b_v55 : Ref sig .tc := ⟨.hbm, 87, rfl⟩
abbrev main_while0b_v56 : Ref sig .tc := ⟨.hbm, 88, rfl⟩
abbrev main_while0b_c_23 : Ref sig .tc := ⟨.hbm, 89, rfl⟩
abbrev main_while0b_c_24 : Ref sig .tc := ⟨.hbm, 90, rfl⟩
abbrev main_while0b_v57 : Ref sig .tc := ⟨.hbm, 91, rfl⟩
abbrev main_while0b_c_25 : Ref sig .tc := ⟨.hbm, 92, rfl⟩
abbrev main_while0b_c_26 : Ref sig .tc := ⟨.hbm, 93, rfl⟩
abbrev main_while0b_v58 : Ref sig .tc := ⟨.hbm, 94, rfl⟩
abbrev main_while0b_c_27 : Ref sig .tc := ⟨.hbm, 95, rfl⟩
abbrev main_while0b_v59 : Ref sig .tc := ⟨.hbm, 96, rfl⟩
abbrev main_while0b_c_28 : Ref sig .tc := ⟨.hbm, 97, rfl⟩
abbrev main_while0b_v60 : Ref sig .tc := ⟨.hbm, 98, rfl⟩
abbrev main_while0b_c_29 : Ref sig .tc := ⟨.hbm, 99, rfl⟩
abbrev main_while0b_v61 : Ref sig .tc := ⟨.hbm, 100, rfl⟩
abbrev main_while0b_v62 : Ref sig .tc := ⟨.hbm, 101, rfl⟩
abbrev main_while0b_v63 : Ref sig .tc := ⟨.hbm, 102, rfl⟩
abbrev main_while0b_v64 : Ref sig .tc := ⟨.hbm, 103, rfl⟩
abbrev main_while0b_v65 : Ref sig .tc := ⟨.hbm, 104, rfl⟩
abbrev main_while0b_v66 : Ref sig .tc := ⟨.hbm, 105, rfl⟩
abbrev main_while0b_c_30 : Ref sig .tc := ⟨.hbm, 106, rfl⟩
abbrev main_while0b_c_31 : Ref sig .tc := ⟨.hbm, 107, rfl⟩
abbrev main_while0b_v67 : Ref sig .tc := ⟨.hbm, 108, rfl⟩
abbrev main_while0b_c_32 : Ref sig .tc := ⟨.hbm, 109, rfl⟩
abbrev main_while0b_c_33 : Ref sig .tc := ⟨.hbm, 110, rfl⟩
abbrev main_while0b_v68 : Ref sig .tc := ⟨.hbm, 111, rfl⟩
abbrev main_while0b_c_34 : Ref sig .tc := ⟨.hbm, 112, rfl⟩
abbrev main_while0b_v69 : Ref sig .tc := ⟨.hbm, 113, rfl⟩
abbrev main_while0b_c_35 : Ref sig .tc := ⟨.hbm, 114, rfl⟩
abbrev main_while0b_v70 : Ref sig .tc := ⟨.hbm, 115, rfl⟩
abbrev main_while0b_c_36 : Ref sig .tc := ⟨.hbm, 116, rfl⟩
abbrev main_while0b_v71 : Ref sig .tc := ⟨.hbm, 117, rfl⟩
abbrev main_while0b_v72 : Ref sig .tc := ⟨.hbm, 118, rfl⟩
abbrev main_while0b_v73 : Ref sig .tc := ⟨.hbm, 119, rfl⟩
abbrev main_while0b_v74 : Ref sig .tc := ⟨.hbm, 120, rfl⟩
abbrev main_while0b_v75 : Ref sig .tc := ⟨.hbm, 121, rfl⟩
abbrev main_while0b_c_37 : Ref sig .tc := ⟨.hbm, 122, rfl⟩
abbrev main_while0b_v76 : Ref sig .tc := ⟨.hbm, 123, rfl⟩
abbrev main_while0b_c_38 : Ref sig .tc := ⟨.hbm, 124, rfl⟩
abbrev main_while0b_v77 : Ref sig .tc := ⟨.hbm, 125, rfl⟩
abbrev main_while0b_v78 : Ref sig .tc := ⟨.hbm, 126, rfl⟩
abbrev main_while0b_v79 : Ref sig .tc := ⟨.hbm, 127, rfl⟩
abbrev main_while0b_v80 : Ref sig .tc := ⟨.hbm, 128, rfl⟩
abbrev main_while0b_v81 : Ref sig .tc := ⟨.hbm, 129, rfl⟩
abbrev main_while0b_c_39 : Ref sig .tc := ⟨.hbm, 130, rfl⟩
abbrev main_while0b_v82 : Ref sig .tc := ⟨.hbm, 131, rfl⟩
abbrev main_v24 : Ref sig .tc := ⟨.hbm, 132, rfl⟩
abbrev main_call3_v0 : Ref sig .tc := ⟨.hbm, 133, rfl⟩
abbrev main_call3_cst : Ref sig .tc := ⟨.hbm, 134, rfl⟩
abbrev main_call3_v1 : Ref sig .tc := ⟨.hbm, 135, rfl⟩
abbrev main_v25 : Ref sig .tc := ⟨.hbm, 136, rfl⟩
abbrev main_v26 : Ref sig .tc := ⟨.hbm, 137, rfl⟩
abbrev main_cst_2 : Ref sig .tc := ⟨.hbm, 138, rfl⟩
abbrev main_call4_v0 : Ref sig .tc := ⟨.hbm, 139, rfl⟩
abbrev main_call4_v1 : Ref sig .tc := ⟨.hbm, 140, rfl⟩
abbrev main_v27 : Ref sig .tc := ⟨.hbm, 141, rfl⟩
abbrev main_v28 : Ref sig .tc := ⟨.hbm, 142, rfl⟩
abbrev main_call5_v0 : Ref sig .tc := ⟨.hbm, 143, rfl⟩
abbrev main_call5_cst : Ref sig .tc := ⟨.hbm, 144, rfl⟩
abbrev main_call5_v1 : Ref sig .tc := ⟨.hbm, 145, rfl⟩
abbrev main_v29 : Ref sig .tc := ⟨.hbm, 146, rfl⟩
abbrev main_v30 : Ref sig .tc := ⟨.hbm, 147, rfl⟩
abbrev main_cst_3 : Ref sig .tc := ⟨.hbm, 148, rfl⟩
abbrev main_call6_v0 : Ref sig .tc := ⟨.hbm, 149, rfl⟩
abbrev main_call6_v1 : Ref sig .tc := ⟨.hbm, 150, rfl⟩
abbrev main_v31 : Ref sig .tc := ⟨.hbm, 151, rfl⟩
abbrev main_v32 : Ref sig .tc := ⟨.hbm, 152, rfl⟩

abbrev nD : Nat := 1
abbrev τ : Topo := Topo.v7x

variable {F : FTy → Type} [FloatOps F]

abbrev main_while0_count : Scf.Loop 32 := ⟨0#32, 64#32, 1#32⟩
-- ==== Proof.Trip.lean ====
/- One trip of the kernel's loop as values: what the carried log-determinant, the row buffer and the pre-activation buffer
   hold after it, of what they held before. -/
module

public import proofs.«01_k».proof.Proof.Gen.KernelIdeal.Value
public import Idealize.ShloMosaic.Lib.Pointwise
public import Idealize.ShloMosaic.Lib.Pipeline.ValueKit
public import Idealize.ShloMosaic.Lib.Tactic
public import Idealize.ShloMosaic.Lib.VecWindow

@[expose] public section

set_option maxRecDepth 16384

noncomputable section

namespace Cert.KernelIdeal.Trip

open Cert.KernelIdeal Cert.KernelIdeal.Gen Idealize.ShloMosaic Idealize.ShloMosaic.TcCoe Idealize.SL.Sem
open Idealize.ShloMosaic.Pointwise

variable {F : FTy → Type} [FloatOps F]

/-- The offsets of a whole buffer are zero. -/
theorem hz : (![0, 0] : Fin 2 → Nat) = fun _ => 0 := funext fun a => by fin_cases a <;> rfl

/-- The loop runs 64 trips. -/
theorem trips_eq : k0_t1_loop.trips = 64 := by decide +kernel

/-- Trip `k` as a coordinate. -/
def coordOf (k : Fin k0_t1_loop.trips) : Fin 64 := ⟨k.val, k.isLt.trans_le trips_eq.le⟩

/-- Row `k` of a weight block, as the one-row block that a trip loads. -/
def rowOf (x : Vec F S64x1024 .f32) (k : Fin k0_t1_loop.trips) : Vec F S1x1024 .f32 := fun e => x (ix2 (coordOf k) (e 1))

/-- The load of one row reads that row. -/
theorem ld_row (x : Vec F S64x1024 .f32) (k : Fin k0_t1_loop.trips) (off : Fin 2 → Nat) (ho : off = ![k.val, 0])
    (h : ∀ a, off a + S1x1024.size a ≤ S64x1024.size a) :
    View.ld x (Rect.unit (s := S64x1024) off S1x1024.size h) = rowOf x k := by
  subst ho
  funext e
  refine congrArg x (funext fun a => ?_)
  match a with
  | ⟨0, _⟩ =>
    refine Fin.ext ?_
    have h0 : (e 0).val < 1 := (e 0).isLt
    show k.val + 1 * (e 0).val = k.val
    omega
  | ⟨1, _⟩ =>
    refine Fin.ext ?_
    show 0 + 1 * (e 1).val = (e 1).val
    omega

/-- The shift of the trip's coordinate: of the pre-activations, the weight block and the biases. -/
abbrev shift (k : Fin k0_t1_loop.trips) (v10 : IVec S1x64 32) (a : Vec F S512x1024 .f32) (w : Vec F S64x1024 .f32) (b : Vec F S1x64 .f32) :
    FVec F S512x1 .f32 := k0_pay3 v10 0#32 1#32 k a (rowOf w k) b

/-- The scale of the trip's coordinate: of the pre-activations, the weight block and the biases. -/
abbrev scale (k : Fin k0_t1_loop.trips) (v10 : IVec S1x64 32) (a : Vec F S512x1024 .f32) (w : Vec F S64x1024 .f32) (b : Vec F S1x64 .f32) :
    FVec F S512x1 .f32 := k0_pay4 v10 0#32 1#32 k a (rowOf w k) b

variable (c : Dev nD) (i : grid0.Coords) (arg1 : Memref sig .tc .vmem S512x64 .f32) (harg1 : arg1.IsWhole) (arg2 : Memref sig .tc .vmem S64x1024 .f32) (harg2 : arg2.IsWhole) (arg3 : Memref sig .tc .vmem S1x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1024 .f32) (harg10 : arg10.IsWhole)
variable (v9 : Vec F S512x64 .f32) (v10 : IVec S1x64 32) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)
  (k : Fin k0_t1_loop.trips) (acc : FVec F S512x1 .f32) (f8 : BufTy.Contents (Elt F) arg8.view.ty) (f10 : BufTy.Contents (Elt F) arg10.view.ty)

/-- The trip adds the scale to the carried log-determinant. -/
theorem yield_eq : tripR_k0_t1 Variants.none c none i arg1 harg1 arg2 harg2 arg3 harg3 arg4 harg4 arg5 harg5 arg6 harg6 arg7 harg7 arg8 harg8 arg9 harg9 arg10 harg10 v9 v10 X_arg2 X_arg4 X_arg5 X_arg6 X_arg7 k acc f8 f10
    = k0_pay12 acc (scale k v10 (arg10.view.read (Elt F) f10) (arg5.view.read (Elt F) X_arg5) (arg7.view.read (Elt F) X_arg7)) := by
  unfold tripR_k0_t1 trip_k0_t1
  dsimp only
  sl_unfold_words
  simp only [View.readAt_eq_ld, View.ld_unit_zero (S := S512x1024) hz, View.ld_unit_zero (S := S1x64) hz, View.ld_unit_zero (S := S512x64) hz, shapeCast_self]
  unfold scale
  rw [← ld_row (arg5.view.read (Elt F) X_arg5) k (k0_off1 k) (k0_off1_eq k) (k0_off1_inb k)]
  rfl

/-- The trip's one write of the row buffer. -/
theorem pieces8 : (tripL_k0_t1 Variants.none c none i arg1 harg1 arg2 harg2 arg3 harg3 arg4 harg4 arg5 harg5 arg6 harg6 arg7 harg7 arg8 harg8 arg9 harg9 arg10 harg10 v9 v10 X_arg2 X_arg4 X_arg5 X_arg6 X_arg7 k acc f8 f10).1
    = [⟨Rect.unit ![0, 0] S512x64.size inb_S512x64_S512x64_0_0, k0_pay11 v9 (k0_pay2 v10 0#32 1#32 k) (shift k v10 (arg10.view.read (Elt F) f10) (arg4.view.read (Elt F) X_arg4) (arg6.view.read (Elt F) X_arg6)) (scale k v10 (arg10.view.read (Elt F) f10) (arg5.view.read (Elt F) X_arg5) (arg7.view.read (Elt F) X_arg7)) (k0_pay5 v10 0#32 1#32 k) (arg8.view.read (Elt F) f8)⟩] := by
  unfold tripL_k0_t1 trip_k0_t1
  dsimp only
  sl_unfold_words
  simp only [View.readAt_eq_ld, View.ld_unit_zero (S := S512x1024) hz, View.ld_unit_zero (S := S1x64) hz, View.ld_unit_zero (S := S512x64) hz, shapeCast_self]
  unfold shift scale
  rw [← ld_row (arg4.view.read (Elt F) X_arg4) k (k0_off1 k) (k0_off1_eq k) (k0_off1_inb k), ← ld_row (arg5.view.read (Elt F) X_arg5) k (k0_off1 k) (k0_off1_eq k) (k0_off1_inb k)]
  rfl

/-- The trip's one write of the pre-activation buffer. -/
theorem pieces10 : (tripL_k0_t1 Variants.none c none i arg1 harg1 arg2 harg2 arg3 harg3 arg4 harg4 arg5 harg5 arg6 harg6 arg7 harg7 arg8 harg8 arg9 harg9 arg10 harg10 v9 v10 X_arg2 X_arg4 X_arg5 X_arg6 X_arg7 k acc f8 f10).2
    = [⟨Rect.unit ![0, 0] S512x1024.size inb_S512x1024_S512x1024_0_0, k0_pay10 v9 (shift k v10 (arg10.view.read (Elt F) f10) (arg4.view.read (Elt F) X_arg4) (arg6.view.read (Elt F) X_arg6)) (scale k v10 (arg10.view.read (Elt F) f10) (arg5.view.read (Elt F) X_arg5) (arg7.view.read (Elt F) X_arg7)) (k0_pay5 v10 0#32 1#32 k) (rowOf (arg2.view.read (Elt F) X_arg2) k) (arg10.view.read (Elt F) f10)⟩] := by
  unfold tripL_k0_t1 trip_k0_t1
  dsimp only
  sl_unfold_words
  simp only [View.readAt_eq_ld, View.ld_unit_zero (S := S512x1024) hz, View.ld_unit_zero (S := S1x64) hz, View.ld_unit_zero (S := S512x64) hz, shapeCast_self]
  unfold shift scale
  rw [← ld_row (arg4.view.read (Elt F) X_arg4) k (k0_off1 k) (k0_off1_eq k) (k0_off1_inb k), ← ld_row (arg5.view.read (Elt F) X_arg5) k (k0_off1 k) (k0_off1_eq k) (k0_off1_inb k), ← ld_row (arg2.view.read (Elt F) X_arg2) k (k0_off1 k) (k0_off1_eq k) (k0_off1_inb k)]
  rfl

end Cert.KernelIdeal.Trip

end
-- ==== Proof.Flow.lean ====
/- The mathematics of the inverse flow on one row, over the extended reals: the masked network's hidden layer and outputs
   of a partly filled row, the coordinate that a step solves for, the row and its log-determinant after `n` steps; and the
   running pre-activation that the kernel carries in place of the network's first product. -/
module

public import Idealize.ShloMosaic.PureOps.Ideal
public import Idealize.ShloMosaic.Lib.IdealHost
public import Mathlib.Algebra.BigOperators.Fin

@[expose] public section

noncomputable section

namespace Cert.Flow

open Idealize.ShloMosaic

/-- The clamp to [-10, 10], the bounds as the extended reals that their words denote. -/
def clip (v : EReal) : EReal := min (Ideal.ofBits .f32 0x41200000#32) (max (Ideal.ofBits .f32 0xC1200000#32) v)

/-- Clamping twice is clamping once. -/
theorem clip_clip (v : EReal) : clip (clip v) = clip v := by
  unfold clip
  generalize Ideal.ofBits .f32 0x41200000#32 = hi
  generalize Ideal.ofBits .f32 0xC1200000#32 = lo
  rcases le_total lo hi with h | h
  · rw [max_eq_right (le_min h (le_max_left lo v)), min_eq_right (min_le_left hi _)]
  · rw [min_eq_left (h.trans (le_max_left lo v)), max_eq_left h, min_eq_left h]

/-- What the last selection leaves of a value: zero for an infinite one. -/
def clean (v : EReal) : EReal :=
  Scalar.select (IntOp.ori (Ideal.cmp .une v v) (Ideal.cmp .oeq (max v (-v)) (Ideal.ofBits .f32 0x7F800000#32)))
    (0 : EReal) v

/-- The network's masked weights and biases, and the row to be inverted. -/
structure Net where
  z : Fin 64 → EReal
  w1 : Fin 1024 → Fin 64 → EReal
  b1 : Fin 1024 → EReal
  w2 : Fin 128 → Fin 1024 → EReal
  b2 : Fin 128 → EReal

/-- The first mask: hidden unit `h` of degree `h % 63` sees coordinate `d` where `d` is at most the degree. -/
def mask1 (h : Fin 1024) (d : Fin 64) : EReal := if d.val ≤ h.val % 63 then 1 else 0

/-- The second mask: output `o`, which belongs to coordinate `o / 2`, sees the hidden units of a lower degree. -/
def mask2 (o : Fin 128) (h : Fin 1024) : EReal := if h.val % 63 < o.val / 2 then 1 else 0

/-- The network of unmasked weights: each weight times its mask. -/
def masked (z : Fin 64 → EReal) (w1 : Fin 1024 → Fin 64 → EReal) (b1 : Fin 1024 → EReal)
    (w2 : Fin 128 → Fin 1024 → EReal) (b2 : Fin 128 → EReal) : Net where
  z := z
  w1 h d := w1 h d * mask1 h d
  b1 := b1
  w2 o h := w2 o h * mask2 o h
  b2 := b2

variable (N : Net)

/-- The hidden layer's pre-activation at the row `x`. -/
def pre (x : Fin 64 → EReal) (h : Fin 1024) : EReal := (∑ d : Fin 64, x d * N.w1 h d) + N.b1 h

/-- Output `o` of the network whose hidden pre-activations are `a`. -/
def outp (a : Fin 1024 → EReal) (o : Fin 128) : EReal :=
  clip ((∑ h : Fin 1024, Ideal.tanh (a h) * N.w2 o h) + N.b2 o)

/-- The output that shifts coordinate `i`. -/
def shiftAt (i : Fin 64) : Fin 128 := ⟨i.val, by omega⟩

/-- The output that scales coordinate `i`. -/
def scaleAt (i : Fin 64) : Fin 128 := ⟨64 + i.val, by omega⟩

/-- Coordinate `i`, solved from the pre-activations `a`. -/
def coord (a : Fin 1024 → EReal) (i : Fin 64) : EReal :=
  N.z i * Ideal.exp (outp N a (scaleAt i)) + outp N a (shiftAt i)

/-- The row after `n` steps: the first `n` coordinates solved, the others zero. -/
def row : ℕ → Fin 64 → EReal
  | 0 => fun _ => 0
  | n + 1 => fun d => if d.val = n then coord N (pre N (row n)) d else row n d

/-- The log-determinant after `n` steps. -/
def logDet : ℕ → EReal
  | 0 => 0
  | n + 1 => if h : n < 64 then logDet n + outp N (pre N (row N n)) (scaleAt ⟨n, h⟩) else logDet n

/-- A coordinate that no step has reached is zero. -/
theorem row_of_le : ∀ (n : ℕ) (d : Fin 64), n ≤ d.val → row N n d = 0
  | 0, _, _ => rfl
  | n + 1, d, h => by
    show (if d.val = n then _ else row N n d) = 0
    rw [if_neg (by omega), row_of_le n d (by omega)]

/-- The step that solves coordinate `i` writes it over a zero: the row after it is the row before plus the coordinate times the
    indicator of its place. -/
theorem row_succ (i d : Fin 64) :
    row N (i.val + 1) d = row N i.val d + coord N (pre N (row N i.val)) i * (if d = i then 1 else 0) := by
  show (if d.val = i.val then _ else row N i.val d) = _
  by_cases h : d = i
  · subst h; rw [if_pos rfl, if_pos rfl, mul_one, row_of_le N d.val d le_rfl, zero_add]
  · rw [if_neg (fun e => h (Fin.ext e)), if_neg h, mul_zero, add_zero]

/-- The row with coordinate `i` set, read where it was set and where it was not. -/
theorem row_succ_set (i d : Fin 64) :
    row N (i.val + 1) d = if d = i then coord N (pre N (row N i.val)) i else row N i.val d := by
  show (if d.val = i.val then _ else row N i.val d) = _
  by_cases h : d = i
  · subst h; rw [if_pos rfl, if_pos rfl]
  · rw [if_neg (fun e => h (Fin.ext e)), if_neg h]

/-- The step adds its scale to the log-determinant. -/
theorem logDet_succ (i : Fin 64) :
    logDet N (i.val + 1) = logDet N i.val + outp N (pre N (row N i.val)) (scaleAt i) := by
  show (if h : i.val < 64 then _ else _) = _
  rw [dif_pos i.isLt]

/-- At the zero row the pre-activation is the bias. -/
theorem pre_zero (h : Fin 1024) : pre N (row N 0) h = N.b1 h := by
  unfold pre
  rw [Finset.sum_eq_zero fun d _ => by show (0 : EReal) * _ = 0; rw [zero_mul], zero_add]

/-- The step that solves coordinate `i` moves the pre-activation by the coordinate times its weight. -/
theorem pre_succ (i : Fin 64) (h : Fin 1024) :
    pre N (row N (i.val + 1)) h = pre N (row N i.val) h + coord N (pre N (row N i.val)) i * N.w1 h i := by
  unfold pre
  rw [add_right_comm]
  congr 1
  have hs : ∀ d : Fin 64, row N (i.val + 1) d * N.w1 h d
      = row N i.val d * N.w1 h d + (if d = i then coord N (pre N (row N i.val)) i * N.w1 h i else 0) := by
    intro d
    rw [row_succ_set]
    by_cases e : d = i
    · subst e; rw [if_pos rfl, if_pos rfl, row_of_le N d.val d le_rfl, zero_mul, zero_add]
    · rw [if_neg e, if_neg e, add_zero]
  rw [Finset.sum_congr rfl fun d _ => hs d, Finset.sum_add_distrib, Finset.sum_ite_eq' Finset.univ i, if_pos (Finset.mem_univ i)]
  rfl

/-- A sum against the indicator of one place is the value there. -/
theorem sum_mul_one_at (f : Fin 64 → EReal) (i : Fin 64) : (∑ d : Fin 64, f d * (if d = i then 1 else 0)) = f i := by
  rw [Finset.sum_congr rfl fun d _ => (mul_ite_zero (d = i) (f d) 1), Finset.sum_ite_eq' Finset.univ i,
    if_pos (Finset.mem_univ i), mul_one]

end Cert.Flow

end
-- ==== Proof.TripValue.lean ====
/- The arithmetic of one trip of the kernel's loop, read at an entry over the extended reals. -/
module

public import proofs.«01_k».proof.Proof.Trip
public import proofs.«01_k».proof.Proof.Flow

@[expose] public section

set_option maxRecDepth 16384

noncomputable section

namespace Cert.KernelIdeal.TripValue

open Cert.KernelIdeal Cert.KernelIdeal.Gen Cert.KernelIdeal.Trip Idealize.ShloMosaic Idealize.ShloMosaic.TcCoe Idealize.ShloMosaic.Pointwise

/-- The coordinates' numbers along a row. -/
abbrev places : IVec S1x64 32 := iota .tc S1x64 32 [1] iota_S1x64_d1_w32

/-- The test for the trip's coordinate, as a word. -/
theorem test_at : ∀ (d : Fin 64) (k : Fin k0_t1_loop.trips),
    BitVec.setWidth 32 (IntOp.cmpi CmpIPredicate.eq (BitVec.ofNat 32 d.val) (Scf.iv 0#32 1#32 k.val))
      = if d.val = k.val then 1#32 else 0#32 := by
  decide +kernel

/-- The indicator of the trip's coordinate. -/
theorem onehot_at (k : Fin k0_t1_loop.trips) (d : Fin 64) :
    k0_pay2 (F := Ideal) places 0#32 1#32 k (ix2 0 d) = (if d = coordOf k then 1 else 0 : EReal) := by
  pointwise [k0_pay2, places]
  rw [test_at]
  have e : d = coordOf k ↔ d.val = k.val := Fin.ext_iff
  by_cases h : d.val = k.val
  · rw [if_pos h, if_pos (e.mpr h)]
    show (((1#32 : BitVec 32).toInt : ℝ) : EReal) = 1
    rw [show (1#32 : BitVec 32).toInt = 1 from by decide]
    simp
  · rw [if_neg h, if_neg (fun h' => h (e.mp h'))]
    show (((0#32 : BitVec 32).toInt : ℝ) : EReal) = 0
    rw [show (0#32 : BitVec 32).toInt = 0 from by decide]
    simp

/-- A row of values against the indicator sums to the value at the trip's coordinate. -/
theorem pick_at (k : Fin k0_t1_loop.trips) (f : Fin 64 → EReal) :
    (∑ x : Fin 64, f x * k0_pay2 (F := Ideal) places 0#32 1#32 k (ix2 0 x)) = f (coordOf k) := by
  rw [Finset.sum_congr rfl fun x _ => congrArg (f x * ·) (onehot_at k x)]
  exact Flow.sum_mul_one_at f (coordOf k)

variable (k : Fin k0_t1_loop.trips) (a : Vec Ideal S512x1024 .f32) (w : Vec Ideal S64x1024 .f32) (b : Vec Ideal S1x64 .f32)

/-- The shift at a row of the block. -/
theorem shift_at (r : Fin 512) :
    shift k places a w b (ix2 r 0)
      = Flow.clip ((∑ h : Fin 1024, Ideal.tanh (a (ix2 r h)) * w (ix2 (coordOf k) h)) + b (ix2 0 (coordOf k))) := by
  unfold shift
  pointwise [k0_pay3, k0_pay1, rowOf]
  rw [pick_at k fun d => b (ix2 0 d)]
  rfl

/-- The scale at a row of the block. -/
theorem scale_at (r : Fin 512) :
    scale k places a w b (ix2 r 0)
      = Flow.clip ((∑ h : Fin 1024, Ideal.tanh (a (ix2 r h)) * w (ix2 (coordOf k) h)) + b (ix2 0 (coordOf k))) := by
  unfold scale
  pointwise [k0_pay4, k0_pay1, rowOf]
  rw [pick_at k fun d => b (ix2 0 d)]
  rfl

variable (z : Vec Ideal S512x64 .f32) (mu al : FVec Ideal S512x1 .f32)

/-- The solved coordinate at a row of the block. -/
theorem coord_at (r : Fin 512) :
    k0_pay9 z mu al (k0_pay5 (F := Ideal) places 0#32 1#32 k) (ix2 r 0)
      = z (ix2 r (coordOf k)) * Ideal.exp (al (ix2 r 0)) + mu (ix2 r 0) := by
  pointwise [k0_pay9, k0_pay5]
  rw [pick_at k fun d => z (ix2 r d)]

/-- The row buffer after the trip. -/
theorem x_at (x : Vec Ideal S512x64 .f32) (r : Fin 512) (d : Fin 64) :
    k0_pay11 z (k0_pay2 (F := Ideal) places 0#32 1#32 k) mu al (k0_pay5 (F := Ideal) places 0#32 1#32 k) x (ix2 r d)
      = x (ix2 r d) + (z (ix2 r (coordOf k)) * Ideal.exp (al (ix2 r 0)) + mu (ix2 r 0)) * (if d = coordOf k then 1 else 0) := by
  pointwise [k0_pay11]
  rw [coord_at, onehot_at]

/-- The pre-activation buffer after the trip. -/
theorem a_at (w1 : Vec Ideal S64x1024 .f32) (r : Fin 512) (h : Fin 1024) :
    k0_pay10 z mu al (k0_pay5 (F := Ideal) places 0#32 1#32 k) (rowOf w1 k) a (ix2 r h)
      = a (ix2 r h) + (z (ix2 r (coordOf k)) * Ideal.exp (al (ix2 r 0)) + mu (ix2 r 0)) * w1 (ix2 (coordOf k) h) := by
  pointwise [k0_pay10, rowOf]
  rw [coord_at]

/-- The log-determinant after the trip. -/
theorem ld_at (l : FVec Ideal S512x1 .f32) (r : Fin 512) : k0_pay12 l al (ix2 r 0) = l (ix2 r 0) + al (ix2 r 0) := by
  pointwise [k0_pay12]

/-- The row buffer's start. -/
theorem x_start (r : Fin 512) (d : Fin 64) : k0_pay7 (F := Ideal) (ix2 r d) = (0 : EReal) := by
  pointwise [k0_pay7]

/-- The log-determinant's start. -/
theorem ld_start (r : Fin 512) : k0_pay8 (F := Ideal) (ix2 r 0) = (0 : EReal) := by
  pointwise [k0_pay8]

/-- The pre-activation buffer's start: the biases. -/
theorem a_start (b1 : Vec Ideal S1x1024 .f32) (r : Fin 512) (h : Fin 1024) : k0_pay6 b1 (ix2 r h) = b1 (ix2 0 h) := by
  pointwise [k0_pay6]

/-- What leaves the row buffer. -/
theorem x_clean (x : Vec Ideal S512x64 .f32) (r : Fin 512) (d : Fin 64) : k0_pay13 x (ix2 r d) = Flow.clean (x (ix2 r d)) := by
  pointwise [k0_pay13]
  rfl

/-- What leaves the log-determinant. -/
theorem ld_clean (l : FVec Ideal S512x1 .f32) (r : Fin 512) : k0_pay14 l (ix2 r 0) = Flow.clean (l (ix2 r 0)) := by
  pointwise [k0_pay14]
  rfl

end Cert.KernelIdeal.TripValue

end
-- ==== Proof.LoopValue.lean ====
/- The kernel's loop as values: before trip `n` the carried log-determinant, the row buffer and the pre-activation buffer hold,
   at each row of the block, the flow's log-determinant, row and pre-activations after `n` steps. -/
module

public import proofs.«01_k».proof.Proof.TripValue

@[expose] public section

set_option maxRecDepth 16384

noncomputable section

namespace Cert.KernelIdeal.LoopValue

open Cert.KernelIdeal Cert.KernelIdeal.Gen Cert.KernelIdeal.Trip Cert.KernelIdeal.TripValue
open Idealize.ShloMosaic Idealize.ShloMosaic.TcCoe Idealize.ShloMosaic.Pointwise

/-- The blocks a grid point loads are those of the networks `N`, one a row: the rows, the masked weights with the second's two
    halves apart, and the biases. -/
structure Blocks (N : Fin 512 → Flow.Net) (z : Vec Ideal S512x64 .f32) (w1 : Vec Ideal S64x1024 .f32) (b1 : Vec Ideal S1x1024 .f32)
    (wm wa : Vec Ideal S64x1024 .f32) (bm ba : Vec Ideal S1x64 .f32) : Prop where
  z : ∀ r d, z (ix2 r d) = (N r).z d
  w1 : ∀ r d h, w1 (ix2 d h) = (N r).w1 h d
  b1 : ∀ r h, b1 (ix2 0 h) = (N r).b1 h
  wm : ∀ r d h, wm (ix2 d h) = (N r).w2 (Flow.shiftAt d) h
  wa : ∀ r d h, wa (ix2 d h) = (N r).w2 (Flow.scaleAt d) h
  bm : ∀ r d, bm (ix2 0 d) = (N r).b2 (Flow.shiftAt d)
  ba : ∀ r d, ba (ix2 0 d) = (N r).b2 (Flow.scaleAt d)

/-- What the loop holds at row `r` after `n` steps. -/
structure Holds (N : Flow.Net) (n : ℕ) (r : Fin 512) (l : FVec Ideal S512x1 .f32) (x : Vec Ideal S512x64 .f32)
    (a : Vec Ideal S512x1024 .f32) : Prop where
  l : l (ix2 r 0) = Flow.logDet N n
  x : ∀ d, x (ix2 r d) = Flow.row N n d
  a : ∀ h, a (ix2 r h) = Flow.pre N (Flow.row N n) h

variable {N : Fin 512 → Flow.Net} {z : Vec Ideal S512x64 .f32} {w1 : Vec Ideal S64x1024 .f32} {b1 : Vec Ideal S1x1024 .f32}
  {wm wa : Vec Ideal S64x1024 .f32} {bm ba : Vec Ideal S1x64 .f32} (HB : Blocks N z w1 b1 wm wa bm ba)

include HB in
/-- One trip takes what is held after `k` steps to what is held after `k + 1`. -/
theorem holds_trip (k : Fin k0_t1_loop.trips) (r : Fin 512) {l : FVec Ideal S512x1 .f32} {x : Vec Ideal S512x64 .f32}
    {a : Vec Ideal S512x1024 .f32} (H : Holds (N r) k.val r l x a) :
    Holds (N r) (k.val + 1) r (k0_pay12 l (scale k places a wa ba))
      (k0_pay11 z (k0_pay2 places 0#32 1#32 k) (shift k places a wm bm) (scale k places a wa ba) (k0_pay5 places 0#32 1#32 k) x)
      (k0_pay10 z (shift k places a wm bm) (scale k places a wa ba) (k0_pay5 places 0#32 1#32 k) (rowOf w1 k) a) := by
  have hs : scale k places a wa ba (ix2 r 0) = Flow.outp (N r) (Flow.pre (N r) (Flow.row (N r) k.val)) (Flow.scaleAt (coordOf k)) := by
    rw [scale_at]
    unfold Flow.outp
    simp only [HB.wa r, HB.ba r, H.a]
  have hm : shift k places a wm bm (ix2 r 0) = Flow.outp (N r) (Flow.pre (N r) (Flow.row (N r) k.val)) (Flow.shiftAt (coordOf k)) := by
    rw [shift_at]
    unfold Flow.outp
    simp only [HB.wm r, HB.bm r, H.a]
  have hc : z (ix2 r (coordOf k)) * Ideal.exp (scale k places a wa ba (ix2 r 0)) + shift k places a wm bm (ix2 r 0)
      = Flow.coord (N r) (Flow.pre (N r) (Flow.row (N r) k.val)) (coordOf k) := by
    rw [hs, hm, HB.z]
    rfl
  refine ⟨?_, fun d => ?_, fun h => ?_⟩
  · rw [ld_at, hs, H.l]
    exact (Flow.logDet_succ (N r) (coordOf k)).symm
  · rw [x_at, hc, H.x]
    exact (Flow.row_succ (N r) (coordOf k) d).symm
  · rw [a_at, hc, H.a, HB.w1 r]
    exact (Flow.pre_succ (N r) (coordOf k) h).symm

/-- What is held before the first trip. -/
theorem holds_start (r : Fin 512) (hb : ∀ h, b1 (ix2 0 h) = (N r).b1 h) :
    Holds (N r) 0 r (k0_pay8 (F := Ideal)) (k0_pay7 (F := Ideal)) (k0_pay6 b1) :=
  ⟨ld_start r, fun d => x_start r d, fun h => (a_start b1 r h).trans ((hb h).trans (Flow.pre_zero (N r) h).symm)⟩

section Loop

variable (c : Dev nD) (i : grid0.Coords) (arg1 : Memref sig .tc .vmem S512x64 .f32) (harg1 : arg1.IsWhole) (arg2 : Memref sig .tc .vmem S64x1024 .f32) (harg2 : arg2.IsWhole) (arg3 : Memref sig .tc .vmem S1x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1024 .f32) (harg10 : arg10.IsWhole)
variable (v9 : Vec Ideal S512x64 .f32) (X_arg2 : BufTy.Contents (Elt Ideal) arg2.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty)
  (G8 : BufTy.Contents (Elt Ideal) arg8.view.ty) (G10 : BufTy.Contents (Elt Ideal) arg10.view.ty) (l0 : FVec Ideal S512x1 .f32)

/-- The loop holds the flow after `n` steps before trip `n`, if it does before the first. -/
theorem holds_loop (HB : Blocks N v9 (arg2.view.read (Elt Ideal) X_arg2) b1 (arg4.view.read (Elt Ideal) X_arg4) (arg5.view.read (Elt Ideal) X_arg5) (arg6.view.read (Elt Ideal) X_arg6) (arg7.view.read (Elt Ideal) X_arg7)) (r : Fin 512)
    (H0 : Holds (N r) 0 r l0 (arg8.view.read (Elt Ideal) G8) (arg10.view.read (Elt Ideal) G10)) :
    ∀ n : ℕ, n ≤ 64 → Holds (N r) n r (st_k0_t1 (F := Ideal) Variants.none c none i arg1 harg1 arg2 harg2 arg3 harg3 arg4 harg4 arg5 harg5 arg6 harg6 arg7 harg7 arg8 harg8 arg9 harg9 arg10 harg10 v9 places X_arg2 X_arg4 X_arg5 X_arg6 X_arg7 G8 G10 l0  n).1
      (arg8.view.read (Elt Ideal) (arg8.view.writes (Elt Ideal) G8 (st_k0_t1 (F := Ideal) Variants.none c none i arg1 harg1 arg2 harg2 arg3 harg3 arg4 harg4 arg5 harg5 arg6 harg6 arg7 harg7 arg8 harg8 arg9 harg9 arg10 harg10 v9 places X_arg2 X_arg4 X_arg5 X_arg6 X_arg7 G8 G10 l0  n).2.1))
      (arg10.view.read (Elt Ideal) (arg10.view.writes (Elt Ideal) G10 (st_k0_t1 (F := Ideal) Variants.none c none i arg1 harg1 arg2 harg2 arg3 harg3 arg4 harg4 arg5 harg5 arg6 harg6 arg7 harg7 arg8 harg8 arg9 harg9 arg10 harg10 v9 places X_arg2 X_arg4 X_arg5 X_arg6 X_arg7 G8 G10 l0  n).2.2))
  | 0, _ => H0
  | n + 1, hn => by
    have hk : n < k0_t1_loop.trips := by rw [trips_eq]; omega
    have ih := holds_loop HB r H0 n (by omega)
    have e := st_k0_t1_succ (F := Ideal) Variants.none c none i arg1 harg1 arg2 harg2 arg3 harg3 arg4 harg4 arg5 harg5 arg6 harg6 arg7 harg7 arg8 harg8 arg9 harg9 arg10 harg10 v9 places X_arg2 X_arg4 X_arg5 X_arg6 X_arg7 G8 G10 l0 ⟨n, hk⟩
    rw [yield_eq, pieces8, pieces10] at e
    dsimp only at e
    rw [e]
    dsimp only [List.singleton_append]
    rw [View.read_writes_full, View.read_writes_full]
    exact holds_trip HB ⟨n, hk⟩ r ih

end Loop

end Cert.KernelIdeal.LoopValue

end
-- ==== Proof.BlockValue.lean ====
/- What a grid point leaves in the blocks of the two results: at each row the flow's row and its log-determinant after 64 steps,
   infinite values replaced by zero. -/
module

public import proofs.«01_k».proof.Proof.LoopValue

@[expose] public section

set_option maxRecDepth 16384

noncomputable section

namespace Cert.KernelIdeal.BlockValue

open Cert.KernelIdeal Cert.KernelIdeal.Gen Cert.KernelIdeal.Trip Cert.KernelIdeal.TripValue Cert.KernelIdeal.LoopValue
open Idealize.ShloMosaic Idealize.ShloMosaic.TcCoe Idealize.ShloMosaic.Pointwise

variable (c : Dev nD) (i : grid0.Coords) (arg1 : Memref sig .tc .vmem S512x64 .f32) (harg1 : arg1.IsWhole) (arg2 : Memref sig .tc .vmem S64x1024 .f32) (harg2 : arg2.IsWhole) (arg3 : Memref sig .tc .vmem S1x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1024 .f32) (harg10 : arg10.IsWhole)
variable (x0 : Vec Ideal S512x64 .f32) (x1 : Vec Ideal S64x1024 .f32) (x2 : Vec Ideal S1x1024 .f32) (x3 x4 : Vec Ideal S64x1024 .f32)
  (x5 x6 : Vec Ideal S1x64 .f32)

/-- What the loop has left, of the blocks loaded: the carried value and the pieces of the two buffers. -/
abbrev left : FVec Ideal S512x1 .f32 × List (View.Piece (Elt Ideal) S512x64 .f32) × List (View.Piece (Elt Ideal) S512x1024 .f32) :=
  st_k0_t1 (F := Ideal) Variants.none c none i arg1 harg1 arg2 harg2 arg3 harg3 arg4 harg4 arg5 harg5 arg6 harg6 arg7 harg7 arg8 harg8 arg9 harg9 arg10 harg10 x0 places (harg2.unread x1) (harg4.unread x3) (harg5.unread x4) (harg6.unread x5) (harg7.unread x6)
  (arg8.view.writes (Elt Ideal) arg8.view.junk [⟨Rect.unit ![0, 0] S512x64.size inb_S512x64_S512x64_0_0, k0_pay7 (F := Ideal)⟩])
  (arg10.view.writes (Elt Ideal) arg10.view.junk [⟨Rect.unit ![0, 0] S512x1024.size inb_S512x1024_S512x1024_0_0, k0_pay6 (F := Ideal) x2⟩]) k0_pay8 64

/-- The row block is the row buffer, cleaned. -/
theorem out7_eq : out0_A_7 (F := Ideal) c i arg1 harg1 arg2 harg2 arg3 harg3 arg4 harg4 arg5 harg5 arg6 harg6 arg7 harg7 arg8 harg8 arg9 harg9 arg10 harg10 x0 x1 x2 x3 x4 x5 x6
    = k0_pay13 (arg8.view.read (Elt Ideal) (arg8.view.writes (Elt Ideal) (arg8.view.writes (Elt Ideal) arg8.view.junk [⟨Rect.unit ![0, 0] S512x64.size inb_S512x64_S512x64_0_0, k0_pay7 (F := Ideal)⟩])
        (left c i arg1 harg1 arg2 harg2 arg3 harg3 arg4 harg4 arg5 harg5 arg6 harg6 arg7 harg7 arg8 harg8 arg9 harg9 arg10 harg10 x0 x1 x2 x3 x4 x5 x6).2.1)) := by
  unfold out0_A_7
  unfold kernelRun0_A
  dsimp only
  sl_unfold_words
  refine (View.read_writes_full VO0_7 _ inb_S512x64_S512x64_0_0 _ _).trans (congrArg k0_pay13 ?_)
  unfold View.readCov
  simp only [View.writes_append, View.readAt_eq_ld, View.ld_unit_zero (S := S512x64) hz, View.ld_unit_zero (S := S1x1024) hz, harg1.read_unread, harg3.read_unread]
  rw [show Scf.trips k0_t1_loop.lb k0_t1_loop.ub k0_t1_loop.st = 64 from trips_eq]

/-- The log-determinant block is the carried value, cleaned. -/
theorem out8_eq : out0_A_8 (F := Ideal) c i arg1 harg1 arg2 harg2 arg3 harg3 arg4 harg4 arg5 harg5 arg6 harg6 arg7 harg7 arg8 harg8 arg9 harg9 arg10 harg10 x0 x1 x2 x3 x4 x5 x6
    = k0_pay14 (left c i arg1 harg1 arg2 harg2 arg3 harg3 arg4 harg4 arg5 harg5 arg6 harg6 arg7 harg7 arg8 harg8 arg9 harg9 arg10 harg10 x0 x1 x2 x3 x4 x5 x6).1 := by
  unfold out0_A_8
  unfold kernelRun0_A
  dsimp only
  sl_unfold_words
  refine (View.read_writes_full VO0_8 _ inb_S512x1_S512x1_0_0 _ _).trans (congrArg k0_pay14 ?_)
  simp only [View.readAt_eq_ld, View.ld_unit_zero (S := S512x64) hz, View.ld_unit_zero (S := S1x1024) hz, harg1.read_unread, harg3.read_unread]
  rw [show Scf.trips k0_t1_loop.lb k0_t1_loop.ub k0_t1_loop.st = 64 from trips_eq]

variable {N : Fin 512 → Flow.Net} (HB : Blocks N x0 x1 x2 x3 x4 x5 x6)

include HB in
/-- The loop has left the flow after 64 steps. -/
theorem holds_left (r : Fin 512) : Holds (N r) 64 r (left c i arg1 harg1 arg2 harg2 arg3 harg3 arg4 harg4 arg5 harg5 arg6 harg6 arg7 harg7 arg8 harg8 arg9 harg9 arg10 harg10 x0 x1 x2 x3 x4 x5 x6).1
    (arg8.view.read (Elt Ideal) (arg8.view.writes (Elt Ideal) (arg8.view.writes (Elt Ideal) arg8.view.junk [⟨Rect.unit ![0, 0] S512x64.size inb_S512x64_S512x64_0_0, k0_pay7 (F := Ideal)⟩])
      (left c i arg1 harg1 arg2 harg2 arg3 harg3 arg4 harg4 arg5 harg5 arg6 harg6 arg7 harg7 arg8 harg8 arg9 harg9 arg10 harg10 x0 x1 x2 x3 x4 x5 x6).2.1))
    (arg10.view.read (Elt Ideal) (arg10.view.writes (Elt Ideal) (arg10.view.writes (Elt Ideal) arg10.view.junk [⟨Rect.unit ![0, 0] S512x1024.size inb_S512x1024_S512x1024_0_0, k0_pay6 (F := Ideal) x2⟩])
      (left c i arg1 harg1 arg2 harg2 arg3 harg3 arg4 harg4 arg5 harg5 arg6 harg6 arg7 harg7 arg8 harg8 arg9 harg9 arg10 harg10 x0 x1 x2 x3 x4 x5 x6).2.2)) := by
  refine holds_loop (b1 := x2) c i arg1 harg1 arg2 harg2 arg3 harg3 arg4 harg4 arg5 harg5 arg6 harg6 arg7 harg7 arg8 harg8 arg9 harg9 arg10 harg10 x0 (harg2.unread x1) (harg4.unread x3) (harg5.unread x4) (harg6.unread x5) (harg7.unread x6) _ _ _ ?_ r ?_ 64 le_rfl
  · rw [harg2.read_unread, harg4.read_unread, harg5.read_unread, harg6.read_unread, harg7.read_unread]
    exact HB
  · rw [View.read_writes_full, View.read_writes_full]
    exact holds_start r (HB.b1 r)

include HB in
/-- The row block at an entry. -/
theorem out7_at (r : Fin 512) (d : Fin 64) :
    out0_A_7 (F := Ideal) c i arg1 harg1 arg2 harg2 arg3 harg3 arg4 harg4 arg5 harg5 arg6 harg6 arg7 harg7 arg8 harg8 arg9 harg9 arg10 harg10 x0 x1 x2 x3 x4 x5 x6 (ix2 r d)
      = Flow.clean (Flow.row (N r) 64 d) := by
  rw [out7_eq, x_clean, (holds_left c i arg1 harg1 arg2 harg2 arg3 harg3 arg4 harg4 arg5 harg5 arg6 harg6 arg7 harg7 arg8 harg8 arg9 harg9 arg10 harg10 x0 x1 x2 x3 x4 x5 x6 HB r).x]

include HB in
/-- The log-determinant block at an entry. -/
theorem out8_at (r : Fin 512) :
    out0_A_8 (F := Ideal) c i arg1 harg1 arg2 harg2 arg3 harg3 arg4 harg4 arg5 harg5 arg6 harg6 arg7 harg7 arg8 harg8 arg9 harg9 arg10 harg10 x0 x1 x2 x3 x4 x5 x6 (ix2 r 0)
      = Flow.clean (Flow.logDet (N r) 64) := by
  rw [out8_eq, ld_clean, (holds_left c i arg1 harg1 arg2 harg2 arg3 harg3 arg4 harg4 arg5 harg5 arg6 harg6 arg7 harg7 arg8 harg8 arg9 harg9 arg10 harg10 x0 x1 x2 x3 x4 x5 x6 HB r).l]

end Cert.KernelIdeal.BlockValue

end
-- ==== Proof.Masks.lean ====
/- The kernel program holds its two masks as tables of words: this module reads them. Entry `n` of the first table is one
   where the column is at most the row's degree, entry `n` of the second where the hidden unit's degree is below the output's
   number. A table is printed as a tree of 128-way choices by the index's digits; a tree of the same shape over a closed
   form is the same term entry by entry, and the closed form's tree is the closed form. -/
module

public import proofs.«01_k».proof.KernelIdeal
public import Idealize.ShloMosaic.Lib.Tactic
public import Mathlib.Tactic.IntervalCases

@[expose] public section

noncomputable section

namespace Cert.Masks

open Idealize.ShloMosaic Idealize.ShloMosaic.Tactic Cert.KernelIdeal

/-- A 128-way choice of the sequence `f`. -/
def pick (f : ℕ → BitVec 32) (x : ℕ) : BitVec 32 := match x with
  | 0 => f 0 | 1 => f 1 | 2 => f 2 | 3 => f 3 | 4 => f 4 | 5 => f 5 | 6 => f 6 | 7 => f 7 | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23 | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39 | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55 | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71 | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87 | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103 | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119 | 120 => f 120 | 121 => f 121 | 122 => f 122 | 123 => f 123 | 124 => f 124 | 125 => f 125 | 126 => f 126 | 127 => f 127
  | _ => 0#32

set_option maxRecDepth 20000 in
/-- The choice takes the sequence's entry. -/
theorem pick_eq (f : ℕ → BitVec 32) (x : ℕ) (h : x < 128) : pick f x = f x := by
  interval_cases x <;> rfl

/-- The tree of one block of 16384 entries of `w`. -/
def block (w : ℕ → BitVec 32) (a i : ℕ) : BitVec 32 :=
  pick (fun j => pick (fun r => w (16384 * a + 128 * j + r)) (i % 128)) (i / 128 % 128)

/-- The tree of block `a` holds `w` at the block's indices. -/
theorem block_eq (w : ℕ → BitVec 32) (a i : ℕ) (h : i / 16384 = a) : block w a i = w i := by
  unfold block
  rw [pick_eq _ _ (Nat.mod_lt _ (by decide)), pick_eq _ _ (Nat.mod_lt _ (by decide))]
  congr 1; omega

/-- The first mask's words: row `n / 64` is a hidden unit, column `n % 64` a coordinate. -/
def word1 (n : ℕ) : BitVec 32 := bif Nat.ble (n % 64) (n / 64 % 63) then 0x3F800000#32 else 0x00000000#32

/-- The second mask's words: row `n / 1024` is an output, column `n % 1024` a hidden unit. -/
def word2 (n : ℕ) : BitVec 32 := bif Nat.blt (n % 1024 % 63) (n / 2048) then 0x3F800000#32 else 0x00000000#32

set_option maxRecDepth 100000 in
theorem first_0 (i : ℕ) : lit0t1_0 i = block word1 0 i := by sl_kernel_rfl

set_option maxRecDepth 100000 in
theorem first_1 (i : ℕ) : lit0t1_1 i = block word1 1 i := by sl_kernel_rfl

set_option maxRecDepth 100000 in
theorem first_2 (i : ℕ) : lit0t1_2 i = block word1 2 i := by sl_kernel_rfl

set_option maxRecDepth 100000 in
theorem first_3 (i : ℕ) : lit0t1_3 i = block word1 3 i := by sl_kernel_rfl

set_option maxRecDepth 100000 in
theorem second_0 (i : ℕ) : lit1t1_0 i = block word2 0 i := by sl_kernel_rfl

set_option maxRecDepth 100000 in
theorem second_1 (i : ℕ) : lit1t1_1 i = block word2 1 i := by sl_kernel_rfl

set_option maxRecDepth 100000 in
theorem second_2 (i : ℕ) : lit1t1_2 i = block word2 2 i := by sl_kernel_rfl

set_option maxRecDepth 100000 in
theorem second_3 (i : ℕ) : lit1t1_3 i = block word2 3 i := by sl_kernel_rfl

set_option maxRecDepth 100000 in
theorem second_4 (i : ℕ) : lit1t1_4 i = block word2 4 i := by sl_kernel_rfl

set_option maxRecDepth 100000 in
theorem second_5 (i : ℕ) : lit1t1_5 i = block word2 5 i := by sl_kernel_rfl

set_option maxRecDepth 100000 in
theorem second_6 (i : ℕ) : lit1t1_6 i = block word2 6 i := by sl_kernel_rfl

set_option maxRecDepth 100000 in
theorem second_7 (i : ℕ) : lit1t1_7 i = block word2 7 i := by sl_kernel_rfl

/-- The first table is the first mask's words. -/
theorem lit0t_eq (i : ℕ) (h : i < 65536) : lit0t i = word1 i := by
  have ha : i / 16384 < 4 := by omega
  unfold lit0t
  generalize hx : i / 16384 = a at ha ⊢
  interval_cases a
  · exact (first_0 i).trans (block_eq _ _ _ hx)
  · exact (first_1 i).trans (block_eq _ _ _ hx)
  · exact (first_2 i).trans (block_eq _ _ _ hx)
  · exact (first_3 i).trans (block_eq _ _ _ hx)

/-- The second table is the second mask's words. -/
theorem lit1t_eq (i : ℕ) (h : i < 131072) : lit1t i = word2 i := by
  have ha : i / 16384 < 8 := by omega
  unfold lit1t
  generalize hx : i / 16384 = a at ha ⊢
  interval_cases a
  · exact (second_0 i).trans (block_eq _ _ _ hx)
  · exact (second_1 i).trans (block_eq _ _ _ hx)
  · exact (second_2 i).trans (block_eq _ _ _ hx)
  · exact (second_3 i).trans (block_eq _ _ _ hx)
  · exact (second_4 i).trans (block_eq _ _ _ hx)
  · exact (second_5 i).trans (block_eq _ _ _ hx)
  · exact (second_6 i).trans (block_eq _ _ _ hx)
  · exact (second_7 i).trans (block_eq _ _ _ hx)

end Cert.Masks

end
-- ==== Proof.KernelBlocks.lean ====
/- The blocks that the kernel's grid points load, read at an entry: those of the networks of the arguments. -/
module

public import proofs.«01_k».proof.Proof.BlockValue
public import proofs.«01_k».proof.Proof.Masks
public import Idealize.ShloMosaic.Lib.Claim

@[expose] public section

set_option maxRecDepth 16384

noncomputable section

namespace Cert.KernelIdeal.KernelBlocks

open Cert.KernelIdeal Cert.KernelIdeal.Gen
open Idealize.ShloMosaic Idealize.ShloMosaic.TcCoe Idealize.ShloMosaic.Pointwise

/-- The block that each window takes at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

/-- A bit chooses between the words of one and of zero. -/
theorem ofBits_bif (b : Bool) (p : Prop) [Decidable p] (h : b = true ↔ p) :
    Ideal.ofBits .f32 (bif b then 0x3F800000#32 else 0x00000000#32) = if p then (1 : EReal) else 0 := by
  cases b with
  | true =>
    rw [if_pos (h.mp rfl)]
    exact Ideal.ofBits_one_f32
  | false =>
    rw [if_neg fun hp => Bool.noConfusion (h.mpr hp)]
    exact Ideal.ofBits_zero_f32

/-- The first constant holds the first mask's words. -/
theorem lit0_eq : ∀ n : Fin 65536, lit0 n = Masks.word1 n.val := fun ⟨n, hn⟩ => Masks.lit0t_eq n hn

/-- The second constant holds the second mask's words. -/
theorem lit1_eq : ∀ n : Fin 131072, lit1 n = Masks.word2 n.val := fun ⟨n, hn⟩ => Masks.lit1t_eq n hn

/-- The first constant at an entry is the first mask. -/
theorem mask1_at (h : Fin 1024) (d : Fin 64) :
    Ideal.ofBits .f32 (lit0 (S1024x64.rowMajor (ix2 h d))) = Flow.mask1 h d := by
  have e : (S1024x64.rowMajor (ix2 h d)).val = h.val * 64 + d.val := Shape.rowMajor_val_two _
  have e1 : (h.val * 64 + d.val) % 64 = d.val := by omega
  have e2 : (h.val * 64 + d.val) / 64 = h.val := by omega
  refine (congrArg (Ideal.ofBits .f32) ((lit0_eq _).trans (congrArg Masks.word1 e))).trans ?_
  unfold Masks.word1 Flow.mask1
  rw [e1, e2]
  exact ofBits_bif _ _ (iff_of_eq Nat.ble_eq)

/-- The second constant at an entry is the second mask. -/
theorem mask2_at (o : Fin 128) (h : Fin 1024) :
    Ideal.ofBits .f32 (lit1 (S128x1024.rowMajor (ix2 o h))) = Flow.mask2 o h := by
  have e : (S128x1024.rowMajor (ix2 o h)).val = o.val * 1024 + h.val := Shape.rowMajor_val_two _
  have e1 : (o.val * 1024 + h.val) % 1024 = h.val := by omega
  have e2 : (o.val * 1024 + h.val) / 2048 = o.val / 2 := by omega
  refine (congrArg (Ideal.ofBits .f32) ((lit1_eq _).trans (congrArg Masks.word2 e))).trans ?_
  unfold Masks.word2 Flow.mask2
  rw [e1, e2]
  exact ofBits_bif _ _ (iff_of_eq Nat.ble_eq)

variable (m : (ℓ : Loc nD τ sig) → Buf (Elt Ideal) ℓ) (c : Dev nD)

/-- The row of the batch that row `r` of block `t` is. -/
def rowAt (t : Fin cfg0.N) (r : Fin 512) : Fin 16384 := ⟨512 * t.val + r.val, by have : t.val < 32 := t.isLt; omega⟩

/-- The rows to be inverted. -/
abbrev A0 : FVec Ideal S16384x64 .f32 := m ((c : Thread nD τ).loc main_arg0)
/-- The first layer's weights. -/
abbrev A1 : FVec Ideal S1024x64 .f32 := m ((c : Thread nD τ).loc main_arg1)
/-- The first layer's biases. -/
abbrev A2 : FVec Ideal S1024 .f32 := m ((c : Thread nD τ).loc main_arg2)
/-- The second layer's weights. -/
abbrev A3 : FVec Ideal S128x1024 .f32 := m ((c : Thread nD τ).loc main_arg3)
/-- The second layer's biases. -/
abbrev A4 : FVec Ideal S128 .f32 := m ((c : Thread nD τ).loc main_arg4)

/-- The block of rows. -/
theorem blk0 (t : Fin cfg0.N) (r : Fin 512) (d : Fin 64) : iblk m c 0 t (ix2 r d) = A0 m c (ix2 (rowAt t r) d) := by
  blk_ext [iblk, V, idx t, rowAt]

/-- The first layer's masked weights. -/
theorem blk1 (t : Fin cfg0.N) (h : Fin 1024) (d : Fin 64) : iblk m c 1 t (ix2 d h) = A1 m c (ix2 h d) * Flow.mask1 h d := by
  have e : ((View.whole main_v1).slice (win0_1.rect t)).emb (ix2 d h) = ix2 d h := by blk_ext [idx t]
  blk_simp [iblk, idx t]
  entry_read
  rw [e]
  pointwise []
  rw [mask1_at]

/-- The first layer's biases. -/
theorem blk2 (t : Fin cfg0.N) (h : Fin 1024) : iblk m c 2 t (ix2 0 h) = A2 m c (ix1 h) := by
  have e : ((View.whole main_v5).slice (win0_2.rect t)).emb (ix2 0 h) = ix2 0 h := by blk_ext [idx t]
  blk_simp [iblk, idx t]
  entry_read
  rw [e]
  pointwise []

/-- The second layer's masked weights of the shifts. -/
theorem blk3 (t : Fin cfg0.N) (h : Fin 1024) (d : Fin 64) : iblk m c 3 t (ix2 d h) = A3 m c (ix2 (Flow.shiftAt d) h) * Flow.mask2 (Flow.shiftAt d) h := by
  have e : ((View.whole main_v3).slice (win0_3.rect t)).emb (ix2 d h) = ix2 d h := by blk_ext [idx t]
  blk_simp [iblk, idx t]
  entry_read
  rw [e]
  pointwise []
  exact congrArg (A3 m c (ix2 (Flow.shiftAt d) h) * ·) (mask2_at (Flow.shiftAt d) h)

/-- The second layer's masked weights of the scales. -/
theorem blk4 (t : Fin cfg0.N) (h : Fin 1024) (d : Fin 64) : iblk m c 4 t (ix2 d h) = A3 m c (ix2 (Flow.scaleAt d) h) * Flow.mask2 (Flow.scaleAt d) h := by
  have e : ((View.whole main_v4).slice (win0_4.rect t)).emb (ix2 d h) = ix2 d h := by blk_ext [idx t]
  blk_simp [iblk, idx t]
  entry_read
  rw [e]
  pointwise []
  exact congrArg (A3 m c (ix2 (Flow.scaleAt d) h) * ·) (mask2_at (Flow.scaleAt d) h)

/-- The second layer's biases of the shifts. -/
theorem blk5 (t : Fin cfg0.N) (d : Fin 64) : iblk m c 5 t (ix2 0 d) = A4 m c (ix1 (Flow.shiftAt d)) := by
  have e : ((View.whole main_v7).slice (win0_5.rect t)).emb (ix2 0 d) = ix2 0 d := by blk_ext [idx t]
  blk_simp [iblk, idx t]
  entry_read
  rw [e]
  pointwise []
  rfl

/-- The second layer's biases of the scales. -/
theorem blk6 (t : Fin cfg0.N) (d : Fin 64) : iblk m c 6 t (ix2 0 d) = A4 m c (ix1 (Flow.scaleAt d)) := by
  have e : ((View.whole main_v9).slice (win0_6.rect t)).emb (ix2 0 d) = ix2 0 d := by blk_ext [idx t]
  blk_simp [iblk, idx t]
  entry_read
  rw [e]
  pointwise []
  rfl

/-- The network that row `r` of the batch meets, of the five arguments. -/
def netOf (r : Fin 16384) : Flow.Net :=
  Flow.masked (fun d => A0 m c (ix2 r d)) (fun h d => A1 m c (ix2 h d)) (fun h => A2 m c (ix1 h)) (fun o h => A3 m c (ix2 o h))
    (fun o => A4 m c (ix1 o))

/-- The blocks of a grid point are those of its rows' networks. -/
theorem blocks (t : Fin cfg0.N) : LoopValue.Blocks (fun r => netOf m c (rowAt t r)) (iblk m c 0 t) (iblk m c 1 t) (iblk m c 2 t)
    (iblk m c 3 t) (iblk m c 4 t) (iblk m c 5 t) (iblk m c 6 t) where
  z r d := blk0 m c t r d
  w1 _ d h := blk1 m c t h d
  b1 _ h := blk2 m c t h
  wm _ d h := blk3 m c t h d
  wa _ d h := blk4 m c t h d
  bm _ d := blk5 m c t d
  ba _ d := blk6 m c t d

end Cert.KernelIdeal.KernelBlocks

end
-- ==== Proof.KernelValue.lean ====
/- The kernel's two result arrays: at every row the flow's row and its log-determinant after 64 steps, infinite values replaced
   by zero. -/
module

public import proofs.«01_k».proof.Proof.KernelBlocks

@[expose] public section

set_option maxRecDepth 16384

noncomputable section

namespace Cert.KernelIdeal.KernelValue

open Cert.KernelIdeal Cert.KernelIdeal.Gen Cert.KernelIdeal.KernelBlocks
open Idealize.ShloMosaic Idealize.ShloMosaic.TcCoe Idealize.ShloMosaic.Pointwise

variable (m : (ℓ : Loc nD τ sig) → Buf (Elt Ideal) ℓ) (c : Dev nD)

/-- The first result, of the arguments. -/
def resX : FVec Ideal S16384x64 .f32 := fun j => Flow.clean (Flow.row (netOf m c (j 0)) 64 (j 1))

/-- The second result, of the arguments. -/
def resL : FVec Ideal S16384x1 .f32 := fun j => Flow.clean (Flow.logDet (netOf m c (j 0)) 64)

/-- What a grid point leaves of the first result. -/
theorem point7 (t : Fin cfg0.N) (r : Fin 512) (d : Fin 64) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (ix2 r d)
      = resX m c (((View.whole main_v10_0).slice (win0_7.rect t)).emb (ix2 r d)) := by
  have e : ((View.whole main_v10_0).slice (win0_7.rect t)).emb (ix2 r d) = ix2 (rowAt t r) d := by blk_ext [idx t, rowAt]
  rw [BlockValue.out7_at (HB := blocks m c t), e]
  rfl

/-- What a grid point leaves of the second result. -/
theorem point8 (t : Fin cfg0.N) (r : Fin 512) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (ix2 r 0)
      = resL m c (((View.whole main_v10_1).slice (win0_8.rect t)).emb (ix2 r 0)) := by
  have e : ((View.whole main_v10_1).slice (win0_8.rect t)).emb (ix2 r 0) = ix2 (rowAt t r) 0 := by blk_ext [idx t, rowAt]
  rw [BlockValue.out8_at (HB := blocks m c t), e]
  rfl

/-- The first result's array holds it. -/
theorem final7 : (dats m 0 c).arrAt 7 cfg0.N = resX m c := by
  refine (dats m 0 c).arrAt_eq_of_covers 7 _ (by decide +kernel) fun t hf y => ?_
  blk_simp
  rw [after0_7]
  unfold outsAt0
  dsimp only
  have hy : y = ix2 (y 0) (y 1) := by blk_ext []
  rw [hy]
  exact point7 m c t (y 0) (y 1)

/-- The second result's array holds it. -/
theorem final8 : (dats m 0 c).arrAt 8 cfg0.N = resL m c := by
  refine (dats m 0 c).arrAt_eq_of_covers 8 _ (by decide +kernel) fun t hf y => ?_
  blk_simp
  rw [after0_8]
  unfold outsAt0
  dsimp only
  have hy : y = ix2 (y 0) 0 := by blk_ext []
  rw [hy]
  exact point8 m c t (y 0)

end Cert.KernelIdeal.KernelValue

end
-- ==== Proof.RefTrip.lean ====
/- One trip of the reference's loop as a step of the carried state: every value of the loop's body in order, the masks
   computed before it, the state the first trip starts from, and the two results read off the last state. -/
module

public import proofs.«01_k».proof.ReferenceIdeal
public import proofs.«01_k».proof.Proof.Gen.ReferenceIdeal

@[expose] public section

noncomputable section

namespace Cert.ReferenceIdeal.Trip

open Idealize.ShloMosaic Cert.ReferenceIdeal Cert.ReferenceIdeal.Gen

variable {F : FTy → Type} [FloatOps F]

/-- What a trip hands the next. -/
structure State (F : FTy → Type) [FloatOps F] where
  main_v23_7 : (⟨S16384x64, .f32⟩ : BufTy).Contents (Elt F)
  main_v23_8 : (⟨S16384, .f32⟩ : BufTy).Contents (Elt F)
  main_v23_1 : (⟨S1024x64, .f32⟩ : BufTy).Contents (Elt F)
  main_v23_2 : (⟨S1024, .f32⟩ : BufTy).Contents (Elt F)
  main_v23_3 : (⟨S128x1024, .f32⟩ : BufTy).Contents (Elt F)
  main_v23_4 : (⟨S128, .f32⟩ : BufTy).Contents (Elt F)
  main_v23_5 : (⟨S16384x64, .f32⟩ : BufTy).Contents (Elt F)

/-! What @main computes before the loop without reading an argument. -/

def K_main_v0 : (⟨S64, .i32⟩ : BufTy).Contents (Elt F) := iotaInDim S64 32 0
def K_main_v1 : (⟨S1024, .i32⟩ : BufTy).Contents (Elt F) := iotaInDim S1024 32 0
def K_main_c : (⟨S_, .i32⟩ : BufTy).Contents (Elt F) := constantI S_ 32 63#32
def K_main_v2 : (⟨S1024, .i32⟩ : BufTy).Contents (Elt F) := broadcastInDim S1024 ![] bcast_S_S1024 ((K_main_c (F := F)))
def K_main_v3 : (⟨S1024, .i32⟩ : BufTy).Contents (Elt F) := Host.remsi ((K_main_v1 (F := F))) ((K_main_v2 (F := F)))
def K_main_v4 : (⟨S1x64, .i32⟩ : BufTy).Contents (Elt F) := broadcastInDim S1x64 ![1] bcast_S64_S1x64_1 ((K_main_v0 (F := F)))
def K_main_v5 : (⟨S1024x1, .i32⟩ : BufTy).Contents (Elt F) := broadcastInDim S1024x1 ![0] bcast_S1024_S1024x1_0 ((K_main_v3 (F := F)))
def K_main_v6 : (⟨S1024x64, .i32⟩ : BufTy).Contents (Elt F) := broadcastInDim S1024x64 ![0, 1] bcast_S1x64_S1024x64_0_1 ((K_main_v4 (F := F)))
def K_main_v7 : (⟨S1024x64, .i32⟩ : BufTy).Contents (Elt F) := broadcastInDim S1024x64 ![0, 1] bcast_S1024x1_S1024x64_0_1 ((K_main_v5 (F := F)))
def K_main_v8 : (⟨S1024x64, .i1⟩ : BufTy).Contents (Elt F) := cmpi .sle ((K_main_v6 (F := F))) ((K_main_v7 (F := F)))
def K_main_v9 : (⟨S1024x64, .f32⟩ : BufTy).Contents (Elt F) := uitofp .f32 ((K_main_v8 (F := F)))
def K_main_v10 : (⟨S1x1024, .i32⟩ : BufTy).Contents (Elt F) := broadcastInDim S1x1024 ![1] bcast_S1024_S1x1024_1 ((K_main_v3 (F := F)))
def K_main_v11 : (⟨S64x1, .i32⟩ : BufTy).Contents (Elt F) := broadcastInDim S64x1 ![0] bcast_S64_S64x1_0 ((K_main_v0 (F := F)))
def K_main_v12 : (⟨S64x1024, .i32⟩ : BufTy).Contents (Elt F) := broadcastInDim S64x1024 ![0, 1] bcast_S1x1024_S64x1024_0_1 ((K_main_v10 (F := F)))
def K_main_v13 : (⟨S64x1024, .i32⟩ : BufTy).Contents (Elt F) := broadcastInDim S64x1024 ![0, 1] bcast_S64x1_S64x1024_0_1 ((K_main_v11 (F := F)))
def K_main_v14 : (⟨S64x1024, .i1⟩ : BufTy).Contents (Elt F) := cmpi .slt ((K_main_v12 (F := F))) ((K_main_v13 (F := F)))
def K_main_v15 : (⟨S64x1024, .f32⟩ : BufTy).Contents (Elt F) := uitofp .f32 ((K_main_v14 (F := F)))
def K_main_v16 : (⟨S64x2x1024, .f32⟩ : BufTy).Contents (Elt F) := broadcastInDim S64x2x1024 ![0, 2] bcast_S64x1024_S64x2x1024_0_2 ((K_main_v15 (F := F)))
def K_main_v17 : (⟨S128x1024, .f32⟩ : BufTy).Contents (Elt F) := shapeCast _ ((K_main_v16 (F := F))) shapeCasts_S64x2x1024_S128x1024
def K_main_cst : (⟨S_, .f32⟩ : BufTy).Contents (Elt F) := constant S_ .f32 0x00000000#32
def K_main_v20 : (⟨S16384x64, .f32⟩ : BufTy).Contents (Elt F) := broadcastInDim S16384x64 ![] bcast_S_S16384x64 ((K_main_cst (F := F)))
def K_main_cst_0 : (⟨S_, .f32⟩ : BufTy).Contents (Elt F) := constant S_ .f32 0x00000000#32
def K_main_v21 : (⟨S16384, .f32⟩ : BufTy).Contents (Elt F) := broadcastInDim S16384 ![] bcast_S_S16384 ((K_main_cst_0 (F := F)))
def K_main_v22 : (⟨S64, .i32⟩ : BufTy).Contents (Elt F) := iotaInDim S64 32 0
def K_main_c_1 : (⟨S_, .i32⟩ : BufTy).Contents (Elt F) := constantI S_ 32 0#32

/-! What @main computes before the loop from its arguments, as functions of them. -/

def A_main_v18 (main_arg1 : (⟨S1024x64, .f32⟩ : BufTy).Contents (Elt F)) (main_arg3 : (⟨S128x1024, .f32⟩ : BufTy).Contents (Elt F)) : (⟨S1024x64, .f32⟩ : BufTy).Contents (Elt F) := mulf (main_arg1) ((K_main_v9 (F := F)))
def A_main_v19 (main_arg1 : (⟨S1024x64, .f32⟩ : BufTy).Contents (Elt F)) (main_arg3 : (⟨S128x1024, .f32⟩ : BufTy).Contents (Elt F)) : (⟨S128x1024, .f32⟩ : BufTy).Contents (Elt F) := mulf (main_arg3) ((K_main_v17 (F := F)))

/-! One trip's values, in the body's order. -/

def b0 (j : ℕ) (s : State F) : (⟨S1, .i32⟩ : BufTy).Contents (Elt F) :=
  Host.dynamicSlice S1 ((K_main_v22 (F := F))) (fun k => (((![(constantI S_ 32 (BitVec.ofNat 32 j) : (⟨S_, .i32⟩ : BufTy).Contents (Elt F))] : Fin 1 → (⟨S_, .i32⟩ : BufTy).Contents (Elt F))) k (Shape.Idx.first h_S_)).toInt) sliceFits_S64_S1
def b1 (j : ℕ) (s : State F) : (⟨S_, .i32⟩ : BufTy).Contents (Elt F) :=
  shapeCast S_ ((b0 j s)) shapeCasts_S1_S_
def b2 (j : ℕ) (s : State F) : (⟨S64x1024, .f32⟩ : BufTy).Contents (Elt F) :=
  transpose S64x1024 [1, 0] (s.main_v23_1) transposes_S1024x64_S64x1024_1_0
def b3 (j : ℕ) (s : State F) : (⟨S16384x1024, .f32⟩ : BufTy).Contents (Elt F) :=
  Host.dotGeneral dot_S16384x64_S64x1024_S16384x1024_1_0_0_1_n_n none (s.main_v23_7) ((b2 j s))
def b4 (j : ℕ) (s : State F) : (⟨S1x1024, .f32⟩ : BufTy).Contents (Elt F) :=
  broadcastInDim S1x1024 ![1] bcast_S1024_S1x1024_1 (s.main_v23_2)
def b5 (j : ℕ) (s : State F) : (⟨S16384x1024, .f32⟩ : BufTy).Contents (Elt F) :=
  broadcastInDim S16384x1024 ![0, 1] bcast_S1x1024_S16384x1024_0_1 ((b4 j s))
def b6 (j : ℕ) (s : State F) : (⟨S16384x1024, .f32⟩ : BufTy).Contents (Elt F) :=
  addf ((b3 j s)) ((b5 j s))
def b7 (j : ℕ) (s : State F) : (⟨S16384x1024, .f32⟩ : BufTy).Contents (Elt F) :=
  Host.tanh ((b6 j s))
def b8 (j : ℕ) (s : State F) : (⟨S1024x128, .f32⟩ : BufTy).Contents (Elt F) :=
  transpose S1024x128 [1, 0] (s.main_v23_3) transposes_S128x1024_S1024x128_1_0
def b9 (j : ℕ) (s : State F) : (⟨S16384x128, .f32⟩ : BufTy).Contents (Elt F) :=
  Host.dotGeneral dot_S16384x1024_S1024x128_S16384x128_1_0_0_1_n_n none ((b7 j s)) ((b8 j s))
def b10 (j : ℕ) (s : State F) : (⟨S1x128, .f32⟩ : BufTy).Contents (Elt F) :=
  broadcastInDim S1x128 ![1] bcast_S128_S1x128_1 (s.main_v23_4)
def b11 (j : ℕ) (s : State F) : (⟨S16384x128, .f32⟩ : BufTy).Contents (Elt F) :=
  broadcastInDim S16384x128 ![0, 1] bcast_S1x128_S16384x128_0_1 ((b10 j s))
def b12 (j : ℕ) (s : State F) : (⟨S16384x128, .f32⟩ : BufTy).Contents (Elt F) :=
  addf ((b9 j s)) ((b11 j s))
def b13 (j : ℕ) (s : State F) : (⟨S_, .f32⟩ : BufTy).Contents (Elt F) :=
  constant S_ .f32 0xC1200000#32
def b14 (j : ℕ) (s : State F) : (⟨S_, .f32⟩ : BufTy).Contents (Elt F) :=
  constant S_ .f32 0x41200000#32
def b15 (j : ℕ) (s : State F) : (⟨S_, .f32⟩ : BufTy).Contents (Elt F) := b13 j s
theorem b15_id (j : ℕ) (s : State F) : b15 j s = b13 j s := rfl
def b16 (j : ℕ) (s : State F) : (⟨S16384x128, .f32⟩ : BufTy).Contents (Elt F) :=
  broadcastInDim S16384x128 ![] bcast_S_S16384x128 ((b15 j s))
def b17 (j : ℕ) (s : State F) : (⟨S16384x128, .f32⟩ : BufTy).Contents (Elt F) :=
  maximumf ((b16 j s)) ((b12 j s))
def b18 (j : ℕ) (s : State F) : (⟨S_, .f32⟩ : BufTy).Contents (Elt F) := b14 j s
theorem b18_id (j : ℕ) (s : State F) : b18 j s = b14 j s := rfl
def b19 (j : ℕ) (s : State F) : (⟨S16384x128, .f32⟩ : BufTy).Contents (Elt F) :=
  broadcastInDim S16384x128 ![] bcast_S_S16384x128 ((b18 j s))
def b20 (j : ℕ) (s : State F) : (⟨S16384x128, .f32⟩ : BufTy).Contents (Elt F) :=
  minimumf ((b19 j s)) ((b17 j s))
def b21 (j : ℕ) (s : State F) : (⟨S16384x64, .f32⟩ : BufTy).Contents (Elt F) :=
  extractStridedSlice S16384x64 ![0, 0] ((b20 j s)) slices_S16384x128_S16384x64_0_0
def b22 (j : ℕ) (s : State F) : (⟨S16384x64, .f32⟩ : BufTy).Contents (Elt F) :=
  extractStridedSlice S16384x64 ![0, 64] ((b20 j s)) slices_S16384x128_S16384x64_0_64
def b23 (j : ℕ) (s : State F) : (⟨S_, .f32⟩ : BufTy).Contents (Elt F) :=
  constant S_ .f32 0xC1200000#32
def b24 (j : ℕ) (s : State F) : (⟨S_, .f32⟩ : BufTy).Contents (Elt F) :=
  constant S_ .f32 0x41200000#32
def b25 (j : ℕ) (s : State F) : (⟨S_, .f32⟩ : BufTy).Contents (Elt F) := b23 j s
theorem b25_id (j : ℕ) (s : State F) : b25 j s = b23 j s := rfl
def b26 (j : ℕ) (s : State F) : (⟨S16384x64, .f32⟩ : BufTy).Contents (Elt F) :=
  broadcastInDim S16384x64 ![] bcast_S_S16384x64 ((b25 j s))
def b27 (j : ℕ) (s : State F) : (⟨S16384x64, .f32⟩ : BufTy).Contents (Elt F) :=
  maximumf ((b26 j s)) ((b22 j s))
def b28 (j : ℕ) (s : State F) : (⟨S_, .f32⟩ : BufTy).Contents (Elt F) := b24 j s
theorem b28_id (j : ℕ) (s : State F) : b28 j s = b24 j s := rfl
def b29 (j : ℕ) (s : State F) : (⟨S16384x64, .f32⟩ : BufTy).Contents (Elt F) :=
  broadcastInDim S16384x64 ![] bcast_S_S16384x64 ((b28 j s))
def b30 (j : ℕ) (s : State F) : (⟨S16384x64, .f32⟩ : BufTy).Contents (Elt F) :=
  minimumf ((b29 j s)) ((b27 j s))
def b31 (j : ℕ) (s : State F) : (⟨S_, .i32⟩ : BufTy).Contents (Elt F) :=
  constantI S_ 32 0#32
def b32 (j : ℕ) (s : State F) : (⟨S_, .i32⟩ : BufTy).Contents (Elt F) :=
  constantI S_ 32 0#32
def b33 (j : ℕ) (s : State F) : (⟨S_, .i1⟩ : BufTy).Contents (Elt F) :=
  cmpi .slt ((b31 j s)) ((b32 j s))
def b34 (j : ℕ) (s : State F) : (⟨S_, .i32⟩ : BufTy).Contents (Elt F) :=
  constantI S_ 32 0#32
def b35 (j : ℕ) (s : State F) : (⟨S_, .i32⟩ : BufTy).Contents (Elt F) :=
  constantI S_ 32 16384#32
def b36 (j : ℕ) (s : State F) : (⟨S_, .i32⟩ : BufTy).Contents (Elt F) :=
  addi ((b34 j s)) ((b35 j s))
def b37 (j : ℕ) (s : State F) : (⟨S_, .i32⟩ : BufTy).Contents (Elt F) :=
  constantI S_ 32 0#32
def b38 (j : ℕ) (s : State F) : (⟨S_, .i32⟩ : BufTy).Contents (Elt F) :=
  select ((b33 j s)) ((b36 j s)) ((b37 j s))
def b39 (j : ℕ) (s : State F) : (⟨S_, .i32⟩ : BufTy).Contents (Elt F) :=
  constantI S_ 32 0#32
def b40 (j : ℕ) (s : State F) : (⟨S_, .i1⟩ : BufTy).Contents (Elt F) :=
  cmpi .slt ((b1 j s)) ((b39 j s))
def b41 (j : ℕ) (s : State F) : (⟨S_, .i32⟩ : BufTy).Contents (Elt F) :=
  constantI S_ 32 64#32
def b42 (j : ℕ) (s : State F) : (⟨S_, .i32⟩ : BufTy).Contents (Elt F) :=
  addi ((b1 j s)) ((b41 j s))
def b43 (j : ℕ) (s : State F) : (⟨S_, .i32⟩ : BufTy).Contents (Elt F) :=
  select ((b40 j s)) ((b42 j s)) ((b1 j s))
def b44 (j : ℕ) (s : State F) : (⟨S16384x1, .f32⟩ : BufTy).Contents (Elt F) :=
  Host.dynamicSlice S16384x1 ((b30 j s)) (fun k => (((![(b38 j s), (b43 j s)] : Fin 2 → (⟨S_, .i32⟩ : BufTy).Contents (Elt F))) k (Shape.Idx.first h_S_)).toInt) sliceFits_S16384x64_S16384x1
def b45 (j : ℕ) (s : State F) : (⟨S16384, .f32⟩ : BufTy).Contents (Elt F) :=
  shapeCast S16384 ((b44 j s)) shapeCasts_S16384x1_S16384
def b46 (j : ℕ) (s : State F) : (⟨S_, .i32⟩ : BufTy).Contents (Elt F) :=
  constantI S_ 32 0#32
def b47 (j : ℕ) (s : State F) : (⟨S_, .i32⟩ : BufTy).Contents (Elt F) :=
  constantI S_ 32 0#32
def b48 (j : ℕ) (s : State F) : (⟨S_, .i1⟩ : BufTy).Contents (Elt F) :=
  cmpi .slt ((b46 j s)) ((b47 j s))
def b49 (j : ℕ) (s : State F) : (⟨S_, .i32⟩ : BufTy).Contents (Elt F) :=
  constantI S_ 32 0#32
def b50 (j : ℕ) (s : State F) : (⟨S_, .i32⟩ : BufTy).Contents (Elt F) :=
  constantI S_ 32 16384#32
def b51 (j : ℕ) (s : State F) : (⟨S_, .i32⟩ : BufTy).Contents (Elt F) :=
  addi ((b49 j s)) ((b50 j s))
def b52 (j : ℕ) (s : State F) : (⟨S_, .i32⟩ : BufTy).Contents (Elt F) :=
  constantI S_ 32 0#32
def b53 (j : ℕ) (s : State F) : (⟨S_, .i32⟩ : BufTy).Contents (Elt F) :=
  select ((b48 j s)) ((b51 j s)) ((b52 j s))
def b54 (j : ℕ) (s : State F) : (⟨S_, .i32⟩ : BufTy).Contents (Elt F) :=
  constantI S_ 32 0#32
def b55 (j : ℕ) (s : State F) : (⟨S_, .i1⟩ : BufTy).Contents (Elt F) :=
  cmpi .slt ((b1 j s)) ((b54 j s))
def b56 (j : ℕ) (s : State F) : (⟨S_, .i32⟩ : BufTy).Contents (Elt F) :=
  constantI S_ 32 64#32
def b57 (j : ℕ) (s : State F) : (⟨S_, .i32⟩ : BufTy).Contents (Elt F) :=
  addi ((b1 j s)) ((b56 j s))
def b58 (j : ℕ) (s : State F) : (⟨S_, .i32⟩ : BufTy).Contents (Elt F) :=
  select ((b55 j s)) ((b57 j s)) ((b1 j s))
def b59 (j : ℕ) (s : State F) : (⟨S16384x1, .f32⟩ : BufTy).Contents (Elt F) :=
  Host.dynamicSlice S16384x1 (s.main_v23_5) (fun k => (((![(b53 j s), (b58 j s)] : Fin 2 → (⟨S_, .i32⟩ : BufTy).Contents (Elt F))) k (Shape.Idx.first h_S_)).toInt) sliceFits_S16384x64_S16384x1
def b60 (j : ℕ) (s : State F) : (⟨S16384, .f32⟩ : BufTy).Contents (Elt F) :=
  shapeCast S16384 ((b59 j s)) shapeCasts_S16384x1_S16384
def b61 (j : ℕ) (s : State F) : (⟨S16384, .f32⟩ : BufTy).Contents (Elt F) :=
  Host.exp ((b45 j s))
def b62 (j : ℕ) (s : State F) : (⟨S16384, .f32⟩ : BufTy).Contents (Elt F) :=
  mulf ((b60 j s)) ((b61 j s))
def b63 (j : ℕ) (s : State F) : (⟨S_, .i32⟩ : BufTy).Contents (Elt F) :=
  constantI S_ 32 0#32
def b64 (j : ℕ) (s : State F) : (⟨S_, .i32⟩ : BufTy).Contents (Elt F) :=
  constantI S_ 32 0#32
def b65 (j : ℕ) (s : State F) : (⟨S_, .i1⟩ : BufTy).Contents (Elt F) :=
  cmpi .slt ((b63 j s)) ((b64 j s))
def b66 (j : ℕ) (s : State F) : (⟨S_, .i32⟩ : BufTy).Contents (Elt F) :=
  constantI S_ 32 0#32
def b67 (j : ℕ) (s : State F) : (⟨S_, .i32⟩ : BufTy).Contents (Elt F) :=
  constantI S_ 32 16384#32
def b68 (j : ℕ) (s : State F) : (⟨S_, .i32⟩ : BufTy).Contents (Elt F) :=
  addi ((b66 j s)) ((b67 j s))
def b69 (j : ℕ) (s : State F) : (⟨S_, .i32⟩ : BufTy).Contents (Elt F) :=
  constantI S_ 32 0#32
def b70 (j : ℕ) (s : State F) : (⟨S_, .i32⟩ : BufTy).Contents (Elt F) :=
  select ((b65 j s)) ((b68 j s)) ((b69 j s))
def b71 (j : ℕ) (s : State F) : (⟨S_, .i32⟩ : BufTy).Contents (Elt F) :=
  constantI S_ 32 0#32
def b72 (j : ℕ) (s : State F) : (⟨S_, .i1⟩ : BufTy).Contents (Elt F) :=
  cmpi .slt ((b1 j s)) ((b71 j s))
def b73 (j : ℕ) (s : State F) : (⟨S_, .i32⟩ : BufTy).Contents (Elt F) :=
  constantI S_ 32 64#32
def b74 (j : ℕ) (s : State F) : (⟨S_, .i32⟩ : BufTy).Contents (Elt F) :=
  addi ((b1 j s)) ((b73 j s))
def b75 (j : ℕ) (s : State F) : (⟨S_, .i32⟩ : BufTy).Contents (Elt F) :=
  select ((b72 j s)) ((b74 j s)) ((b1 j s))
def b76 (j : ℕ) (s : State F) : (⟨S16384x1, .f32⟩ : BufTy).Contents (Elt F) :=
  Host.dynamicSlice S16384x1 ((b21 j s)) (fun k => (((![(b70 j s), (b75 j s)] : Fin 2 → (⟨S_, .i32⟩ : BufTy).Contents (Elt F))) k (Shape.Idx.first h_S_)).toInt) sliceFits_S16384x64_S16384x1
def b77 (j : ℕ) (s : State F) : (⟨S16384, .f32⟩ : BufTy).Contents (Elt F) :=
  shapeCast S16384 ((b76 j s)) shapeCasts_S16384x1_S16384
def b78 (j : ℕ) (s : State F) : (⟨S16384, .f32⟩ : BufTy).Contents (Elt F) :=
  addf ((b62 j s)) ((b77 j s))
def b79 (j : ℕ) (s : State F) : (⟨S_, .i32⟩ : BufTy).Contents (Elt F) :=
  constantI S_ 32 0#32
def b80 (j : ℕ) (s : State F) : (⟨S_, .i1⟩ : BufTy).Contents (Elt F) :=
  cmpi .slt ((b1 j s)) ((b79 j s))
def b81 (j : ℕ) (s : State F) : (⟨S_, .i32⟩ : BufTy).Contents (Elt F) :=
  constantI S_ 32 64#32
def b82 (j : ℕ) (s : State F) : (⟨S_, .i32⟩ : BufTy).Contents (Elt F) :=
  addi ((b1 j s)) ((b81 j s))
def b83 (j : ℕ) (s : State F) : (⟨S_, .i32⟩ : BufTy).Contents (Elt F) :=
  select ((b80 j s)) ((b82 j s)) ((b1 j s))
def b84 (j : ℕ) (s : State F) : (⟨S1, .i32⟩ : BufTy).Contents (Elt F) :=
  broadcastInDim S1 ![] bcast_S_S1 ((b83 j s))
def b85 (j : ℕ) (s : State F) : (⟨S16384x64, .f32⟩ : BufTy).Contents (Elt F) :=
  Host.scatter scatter_S16384x64_S1_S16384_0_1_1_0 (fun _ b => b) (s.main_v23_7) ((b84 j s)) ((b78 j s))
def b86 (j : ℕ) (s : State F) : (⟨S16384, .f32⟩ : BufTy).Contents (Elt F) :=
  addf (s.main_v23_8) ((b45 j s))

/-- The state @main hands the first trip, of the arguments it copies in or computes from. -/
def init (main_arg2 : (⟨S1024, .f32⟩ : BufTy).Contents (Elt F)) (main_arg4 : (⟨S128, .f32⟩ : BufTy).Contents (Elt F)) (main_arg0 : (⟨S16384x64, .f32⟩ : BufTy).Contents (Elt F)) (main_arg1 : (⟨S1024x64, .f32⟩ : BufTy).Contents (Elt F)) (main_arg3 : (⟨S128x1024, .f32⟩ : BufTy).Contents (Elt F)) : State F :=
  { main_v23_7 := K_main_v20 (F := F), main_v23_8 := K_main_v21 (F := F), main_v23_1 := A_main_v18 main_arg1 main_arg3, main_v23_2 := main_arg2, main_v23_3 := A_main_v19 main_arg1 main_arg3, main_v23_4 := main_arg4, main_v23_5 := main_arg0 }

/-- One trip. -/
def step (j : ℕ) (s : State F) : State F :=
  { main_v23_7 := b85 j s, main_v23_8 := b86 j s, main_v23_1 := s.main_v23_1, main_v23_2 := s.main_v23_2, main_v23_3 := s.main_v23_3, main_v23_4 := s.main_v23_4, main_v23_5 := s.main_v23_5 }
theorem step_main_v23_7 (j : ℕ) (s : State F) : (step j s).main_v23_7 = b85 j s := by unfold step; with_reducible rfl
theorem step_main_v23_8 (j : ℕ) (s : State F) : (step j s).main_v23_8 = b86 j s := by unfold step; with_reducible rfl

/-- `main_v27`, which the operations after the loop make, of the loop's last state. -/
def R_main_v27 (s : State F) : (⟨S16384x64, .f32⟩ : BufTy).Contents (Elt F) :=
  select (ori (cmpf .une (s.main_v23_7) (s.main_v23_7)) (cmpf .oeq (Host.absf (s.main_v23_7)) (broadcastInDim S16384x64 ![] bcast_S_S16384x64 (constant S_ .f32 0x7F800000#32)))) (broadcastInDim S16384x64 ![] bcast_S_S16384x64 (id (constant S_ .f32 0x00000000#32))) (s.main_v23_7)

/-- `main_v32`, which the operations after the loop make, of the loop's last state. -/
def R_main_v32 (s : State F) : (⟨S16384x1, .f32⟩ : BufTy).Contents (Elt F) :=
  shapeCast _ (select (ori (cmpf .une (s.main_v23_8) (s.main_v23_8)) (cmpf .oeq (Host.absf (s.main_v23_8)) (broadcastInDim S16384 ![] bcast_S_S16384 (constant S_ .f32 0x7F800000#32)))) (broadcastInDim S16384 ![] bcast_S_S16384 (id (constant S_ .f32 0x00000000#32))) (s.main_v23_8)) shapeCasts_S16384_S16384x1

end Cert.ReferenceIdeal.Trip

end
-- ==== Proof.RefStep.lean ====
/- What one trip of the reference's loop makes, element by element. -/
module

public import proofs.«01_k».proof.Proof.RefTrip
public import proofs.«01_k».proof.Proof.Flow
public import Idealize.ShloMosaic.Lib.Pointwise
public import Idealize.ShloMosaic.Lib.Routing.OpsSet
public import Idealize.ShloMosaic.PureOps.Ideal

@[expose] public section

set_option maxRecDepth 16384

noncomputable section

namespace Cert.ReferenceIdeal.StepValue

open Idealize.ShloMosaic Idealize.ShloMosaic.TcCoe Idealize.ShloMosaic.StableHlo Idealize.ShloMosaic.Pointwise
open Cert.ReferenceIdeal Cert.ReferenceIdeal.Trip

variable (i : Fin 64) (s : State Ideal)

/-- The trip's number, read as an integer. -/
theorem toInt_at : (BitVec.ofNat 32 i.val).toInt = (i.val : Int) :=
  StableHlo.Predicate.toInt_ofNat_small _ (by have := i.isLt; omega)

/-- The trip's number as a word. -/
theorem b1_at (e : S_.Idx) : b1 i.val s e = BitVec.ofNat 32 i.val := by
  have hi := i.isLt
  pointwise [b1, b0, K_main_v22]
  rw [Host.clampedStart_of_le _ _ 0 i.val (toInt_at i) (by show i.val + 1 ≤ 64; omega)]

/-- A trip's number is not negative. -/
theorem not_neg : IntOp.cmpi .slt (BitVec.ofNat 32 i.val) 0#32 = 0#1 := by
  have h : (BitVec.ofNat 32 i.val).slt 0#32 = false := by
    rw [BitVec.slt, toInt_at]; exact decide_eq_false (by simp)
  show BitVec.ofBool ((BitVec.ofNat 32 i.val).slt 0#32) = 0#1
  rw [h]; rfl

/-- The column's number that each slice of a column and the write start from. -/
theorem b43_at (e : S_.Idx) : b43 i.val s e = BitVec.ofNat 32 i.val := by
  pointwise [b43, b42, b41, b40, b39]
  rw [b1_at, not_neg]; rfl

theorem b58_at (e : S_.Idx) : b58 i.val s e = BitVec.ofNat 32 i.val := b43_at i s e

theorem b75_at (e : S_.Idx) : b75 i.val s e = BitVec.ofNat 32 i.val := b43_at i s e

theorem b83_at (e : S_.Idx) : b83 i.val s e = BitVec.ofNat 32 i.val := b43_at i s e

/-- The row's number that each slice of a column starts from. -/
theorem b38_at (e : S_.Idx) : (b38 i.val s e : BitVec 32) = 0#32 := by
  pointwise [b38, b37, b36, b35, b34, b33, b32, b31]
  rfl

theorem b53_at (e : S_.Idx) : (b53 i.val s e : BitVec 32) = 0#32 := b38_at i s e

theorem b70_at (e : S_.Idx) : (b70 i.val s e : BitVec 32) = 0#32 := b38_at i s e

/-- A column sliced from row `a` and column `b` on is column `i` from its first row on, where `a` is zero and `b` is `i`. -/
theorem col_at (x : FVec Ideal S16384x64 .f32) (a b : (⟨S_, .i32⟩ : BufTy).Contents (Elt Ideal))
    (ha : ∀ e, (a e : BitVec 32) = 0#32) (hb : ∀ e, b e = BitVec.ofNat 32 i.val) (r : Fin 16384) :
    shapeCast S16384 (Host.dynamicSlice S16384x1 x (fun k => (((![a, b] : Fin 2 → (⟨S_, .i32⟩ : BufTy).Contents (Elt Ideal))) k
      (Shape.Idx.first Gen.h_S_)).toInt) Gen.sliceFits_S16384x64_S16384x1) Gen.shapeCasts_S16384x1_S16384 (ix1 r) = x (ix2 r i) := by
  have hi := i.isLt
  pointwise
  refine congrArg x (congrArg₂ ix2 (Fin.ext ?_) (Fin.ext ?_))
  · show Host.clampedStart S16384x64 S16384x1 _ _ (0 : Fin 2) + r.val = r.val
    rw [Host.clampedStart_of_le _ _ 0 0 (by show BitVec.toInt (a _) = _; rw [ha]; rfl) (by show 0 + 16384 ≤ 16384; omega), Nat.zero_add]
  · have h1 : ∀ (start : Fin S16384x64.rank → Int) (q : Fin S16384x64.rank), q.val = 1 → start q = i.val →
        Host.clampedStart S16384x64 S16384x1 Gen.sliceFits_S16384x64_S16384x1.1 start q = i.val := by
      intro start q hq hs
      have : q = ⟨1, by decide⟩ := Fin.ext hq
      subst this
      refine Host.clampedStart_of_le _ _ _ _ hs ?_
      show i.val + 1 ≤ 64
      omega
    refine Eq.trans (b := Host.clampedStart S16384x64 S16384x1 Gen.sliceFits_S16384x64_S16384x1.1 _ _) (by dsimp only) (h1 _ _ rfl ?_)
    exact (by show BitVec.toInt (b _) = _; rw [hb]; exact toInt_at i)

/-- The state's row and weights as a network: what one row of the batch meets. -/
def net (r : Fin 16384) : Flow.Net where
  z d := s.main_v23_5 (ix2 r d)
  w1 h d := s.main_v23_1 (ix2 h d)
  b1 h := s.main_v23_2 (ix1 h)
  w2 o h := s.main_v23_3 (ix2 o h)
  b2 o := s.main_v23_4 (ix1 o)

/-- The hidden pre-activations of row `r` of the state. -/
def acc (r : Fin 16384) : Fin 1024 → EReal := Flow.pre (net s r) fun d => s.main_v23_7 (ix2 r d)

/-- The network's output, clamped. -/
theorem b20_at (r : Fin 16384) (o : Fin 128) : b20 i.val s (ix2 r o) = Flow.outp (net s r) (acc s r) o := by
  pointwise [b20, b19, b18, b17, b16, b15, b14, b13, b12, b11, b10, b9, b8, b7, b6, b5, b4, b3, b2]
  rfl

/-- The scales, clamped once more. -/
theorem b30_at (r : Fin 16384) (d : Fin 64) :
    b30 i.val s (ix2 r d) = Flow.outp (net s r) (acc s r) (Flow.scaleAt d) := by
  pointwise [b30, b29, b28, b27, b26, b25, b24, b23, b22]
  rw [b20_at]
  exact Flow.clip_clip _

/-- The scale of the trip's coordinate. -/
theorem b45_at (r : Fin 16384) : b45 i.val s (ix1 r) = Flow.outp (net s r) (acc s r) (Flow.scaleAt i) :=
  (col_at i _ _ _ (b38_at i s) (b43_at i s) r).trans (b30_at i s r i)

/-- The shift of the trip's coordinate. -/
theorem b77_at (r : Fin 16384) : b77 i.val s (ix1 r) = Flow.outp (net s r) (acc s r) (Flow.shiftAt i) := by
  refine (col_at i _ _ _ (b70_at i s) (b75_at i s) r).trans ?_
  pointwise [b21]
  exact b20_at i s r (Flow.shiftAt i)

/-- The coordinate the trip solves for. -/
theorem b78_at (r : Fin 16384) : b78 i.val s (ix1 r) = Flow.coord (net s r) (acc s r) i := by
  have hz : b60 i.val s (ix1 r) = s.main_v23_5 (ix2 r i) := col_at i _ _ _ (b53_at i s) (b58_at i s) r
  pointwise [b78, b62, b61]
  rw [hz, b45_at, b77_at]
  rfl

/-- The trip's row: the coordinate written at its column, the others kept. -/
theorem x_at (r : Fin 16384) (d : Fin 64) : (step i.val s).main_v23_7 (ix2 r d)
    = if d = i then Flow.coord (net s r) (acc s r) i else s.main_v23_7 (ix2 r d) := by
  rw [step_main_v23_7]
  unfold b85
  have hidx : ∀ e : S1.Idx, (b84 i.val s e).toInt = (i.val : Int) := by
    intro e
    have : b84 i.val s e = BitVec.ofNat 32 i.val := b83_at i s _
    rw [this]; exact toInt_at i
  have hl : ∀ k : S16384.Idx, scatter_S16384x64_S1_S16384_0_1_1_0.resultIdx? k (b84 i.val s) = some (ix2 r d)
      ↔ (k 0).val = r.val ∧ i = d := by
    intro k
    rw [ix2_eq_valueIdx, Routing.resultIdx?_ix2]
    have s0 : scatter_S16384x64_S1_S16384_0_1_1_0.start k (b84 i.val s) 0 = 0 := rfl
    have s1 : scatter_S16384x64_S1_S16384_0_1_1_0.start k (b84 i.val s) 1 = (i.val : Int) := hidx _
    have w0 : scatter_S16384x64_S1_S16384_0_1_1_0.window k 0 = (k 0).val := rfl
    have w1 : scatter_S16384x64_S1_S16384_0_1_1_0.window k 1 = 0 := rfl
    rw [s0, s1, w0, w1]
    constructor
    · rintro ⟨p, q⟩; exact ⟨by omega, Fin.ext (by omega)⟩
    · rintro ⟨p, q⟩; subst q; exact ⟨by omega, by omega⟩
  by_cases h : d = i
  · rw [if_pos h, ← b78_at]
    refine Routing.scatter_set_hit _ _ _ _ _ _ (fun k hk => ?_) (ix1 r) ((hl _).2 ⟨rfl, h.symm⟩)
    have : k = ix1 r := funext fun a => by
      match a with
      | ⟨0, _⟩ => exact Fin.ext ((hl k).1 hk).1
    rw [this]
  · rw [if_neg h]
    exact Routing.scatter_set_miss _ _ _ _ _ fun k hk => h ((hl k).1 hk).2.symm

/-- The trip's log-determinant: the scale added. -/
theorem ld_at (r : Fin 16384) : (step i.val s).main_v23_8 (ix1 r)
    = s.main_v23_8 (ix1 r) + Flow.outp (net s r) (acc s r) (Flow.scaleAt i) := by
  rw [step_main_v23_8]
  pointwise [b86]
  rw [b45_at]

end Cert.ReferenceIdeal.StepValue

end
-- ==== Proof.RefTripRun.lean ====
/- The reference's run, stated over the step of one trip (module RefTrip): at contents that hold a state every value of
   one trip is that module's value, one lemma each; one trip keeps holding with the step applied; what comes before the
   loop holds the first state; and the two results are read off state number 64. -/
module

public import proofs.«01_k».proof.Proof.Gen.ReferenceIdeal.Run
public import proofs.«01_k».proof.Proof.RefTrip

@[expose] public section

noncomputable section

namespace Cert.ReferenceIdeal.TripRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Trip (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v23_7) = s.main_v23_7
  f_8 : V0 (Proc.devRef .tc main_v23_8) = s.main_v23_8
  f_1 : V0 (Proc.devRef .tc main_v23_1) = s.main_v23_1
  f_2 : V0 (Proc.devRef .tc main_v23_2) = s.main_v23_2
  f_3 : V0 (Proc.devRef .tc main_v23_3) = s.main_v23_3
  f_4 : V0 (Proc.devRef .tc main_v23_4) = s.main_v23_4
  f_5 : V0 (Proc.devRef .tc main_v23_5) = s.main_v23_5
  n_6 : V0 (Proc.devRef .tc main_v23_6) = constantI S_ 32 (BitVec.ofNat 32 j)
  k_0 : V0 (Proc.devRef .tc main_v23_0) = Cert.ReferenceIdeal.Trip.K_main_v22 (F := F)

variable {V0 s j}

set_option maxRecDepth 8192 in
theorem al_0 (h : Holds V0 s j) : (Host.dynamicSlice S1 (V0 (Proc.devRef .tc main_v23_0)) (fun k => (((![V0 (Proc.devRef .tc main_v23_6)] : Fin 1 → (⟨S_, .i32⟩ : BufTy).Contents (Elt F))) k (Shape.Idx.first h_S_)).toInt) sliceFits_S64_S1 : (Proc.devRef .tc main_while0b_call0_v0 : DevRef τ sig).ty.Contents (Elt F)) = Cert.ReferenceIdeal.Trip.b0 j s := by
  unfold Cert.ReferenceIdeal.Trip.b0
  rw [h.k_0, h.n_6]
  try rfl
set_option maxRecDepth 8192 in
theorem al_1 (h : Holds V0 s j) : (res_main_while0b_v33 V0 : (Proc.devRef .tc main_while0b_v33 : DevRef τ sig).ty.Contents (Elt F)) = Cert.ReferenceIdeal.Trip.b1 j s := by
  unfold res_main_while0b_v33 Cert.ReferenceIdeal.Trip.b1
  rw [← al_0 h]
  try rfl
set_option maxRecDepth 8192 in
theorem al_2 (h : Holds V0 s j) : (transpose S64x1024 [1, 0] (V0 (Proc.devRef .tc main_v23_1)) transposes_S1024x64_S64x1024_1_0 : (Proc.devRef .tc main_while0b_v34 : DevRef τ sig).ty.Contents (Elt F)) = Cert.ReferenceIdeal.Trip.b2 j s := by
  unfold Cert.ReferenceIdeal.Trip.b2
  rw [h.f_1]
  try rfl
set_option maxRecDepth 8192 in
theorem al_3 (h : Holds V0 s j) : (Host.dotGeneral dot_S16384x64_S64x1024_S16384x1024_1_0_0_1_n_n none (V0 (Proc.devRef .tc main_v23_7)) (transpose S64x1024 [1, 0] (V0 (Proc.devRef .tc main_v23_1)) transposes_S1024x64_S64x1024_1_0) : (Proc.devRef .tc main_while0b_v35 : DevRef τ sig).ty.Contents (Elt F)) = Cert.ReferenceIdeal.Trip.b3 j s := by
  unfold Cert.ReferenceIdeal.Trip.b3
  rw [← al_2 h, h.f_7]
  try rfl
set_option maxRecDepth 8192 in
theorem al_4 (h : Holds V0 s j) : (broadcastInDim S1x1024 ![1] bcast_S1024_S1x1024_1 (V0 (Proc.devRef .tc main_v23_2)) : (Proc.devRef .tc main_while0b_v36 : DevRef τ sig).ty.Contents (Elt F)) = Cert.ReferenceIdeal.Trip.b4 j s := by
  unfold Cert.ReferenceIdeal.Trip.b4
  rw [h.f_2]
  try rfl
set_option maxRecDepth 8192 in
theorem al_5 (h : Holds V0 s j) : (broadcastInDim S16384x1024 ![0, 1] bcast_S1x1024_S16384x1024_0_1 (broadcastInDim S1x1024 ![1] bcast_S1024_S1x1024_1 (V0 (Proc.devRef .tc main_v23_2))) : (Proc.devRef .tc main_while0b_v37 : DevRef τ sig).ty.Contents (Elt F)) = Cert.ReferenceIdeal.Trip.b5 j s := by
  unfold Cert.ReferenceIdeal.Trip.b5
  rw [← al_4 h]
  try rfl
set_option maxRecDepth 8192 in
theorem al_6 (h : Holds V0 s j) : (addf (Host.dotGeneral dot_S16384x64_S64x1024_S16384x1024_1_0_0_1_n_n none (V0 (Proc.devRef .tc main_v23_7)) (transpose S64x1024 [1, 0] (V0 (Proc.devRef .tc main_v23_1)) transposes_S1024x64_S64x1024_1_0)) (broadcastInDim S16384x1024 ![0, 1] bcast_S1x1024_S16384x1024_0_1 (broadcastInDim S1x1024 ![1] bcast_S1024_S1x1024_1 (V0 (Proc.devRef .tc main_v23_2)))) : (Proc.devRef .tc main_while0b_v38 : DevRef τ sig).ty.Contents (Elt F)) = Cert.ReferenceIdeal.Trip.b6 j s := by
  unfold Cert.ReferenceIdeal.Trip.b6
  rw [← al_3 h, ← al_5 h]
  try rfl
set_option maxRecDepth 8192 in
theorem al_7 (h : Holds V0 s j) : (Host.tanh (addf (Host.dotGeneral dot_S16384x64_S64x1024_S16384x1024_1_0_0_1_n_n none (V0 (Proc.devRef .tc main_v23_7)) (transpose S64x1024 [1, 0] (V0 (Proc.devRef .tc main_v23_1)) transposes_S1024x64_S64x1024_1_0)) (broadcastInDim S16384x1024 ![0, 1] bcast_S1x1024_S16384x1024_0_1 (broadcastInDim S1x1024 ![1] bcast_S1024_S1x1024_1 (V0 (Proc.devRef .tc main_v23_2))))) : (Proc.devRef .tc main_while0b_v39 : DevRef τ sig).ty.Contents (Elt F)) = Cert.ReferenceIdeal.Trip.b7 j s := by
  unfold Cert.ReferenceIdeal.Trip.b7
  rw [← al_6 h]
  try rfl
set_option maxRecDepth 8192 in
theorem al_8 (h : Holds V0 s j) : (transpose S1024x128 [1, 0] (V0 (Proc.devRef .tc main_v23_3)) transposes_S128x1024_S1024x128_1_0 : (Proc.devRef .tc main_while0b_v40 : DevRef τ sig).ty.Contents (Elt F)) = Cert.ReferenceIdeal.Trip.b8 j s := by
  unfold Cert.ReferenceIdeal.Trip.b8
  rw [h.f_3]
  try rfl
set_option maxRecDepth 8192 in
theorem al_9 (h : Holds V0 s j) : (Host.dotGeneral dot_S16384x1024_S1024x128_S16384x128_1_0_0_1_n_n none (Host.tanh (addf (Host.dotGeneral dot_S16384x64_S64x1024_S16384x1024_1_0_0_1_n_n none (V0 (Proc.devRef .tc main_v23_7)) (transpose S64x1024 [1, 0] (V0 (Proc.devRef .tc main_v23_1)) transposes_S1024x64_S64x1024_1_0)) (broadcastInDim S16384x1024 ![0, 1] bcast_S1x1024_S16384x1024_0_1 (broadcastInDim S1x1024 ![1] bcast_S1024_S1x1024_1 (V0 (Proc.devRef .tc main_v23_2)))))) (transpose S1024x128 [1, 0] (V0 (Proc.devRef .tc main_v23_3)) transposes_S128x1024_S1024x128_1_0) : (Proc.devRef .tc main_while0b_v41 : DevRef τ sig).ty.Contents (Elt F)) = Cert.ReferenceIdeal.Trip.b9 j s := by
  unfold Cert.ReferenceIdeal.Trip.b9
  rw [← al_7 h, ← al_8 h]
  try rfl
set_option maxRecDepth 8192 in
theorem al_10 (h : Holds V0 s j) : (broadcastInDim S1x128 ![1] bcast_S128_S1x128_1 (V0 (Proc.devRef .tc main_v23_4)) : (Proc.devRef .tc main_while0b_v42 : DevRef τ sig).ty.Contents (Elt F)) = Cert.ReferenceIdeal.Trip.b10 j s := by
  unfold Cert.ReferenceIdeal.Trip.b10
  rw [h.f_4]
  try rfl
set_option maxRecDepth 8192 in
theorem al_11 (h : Holds V0 s j) : (broadcastInDim S16384x128 ![0, 1] bcast_S1x128_S16384x128_0_1 (broadcastInDim S1x128 ![1] bcast_S128_S1x128_1 (V0 (Proc.devRef .tc main_v23_4))) : (Proc.devRef .tc main_while0b_v43 : DevRef τ sig).ty.Contents (Elt F)) = Cert.ReferenceIdeal.Trip.b11 j s := by
  unfold Cert.ReferenceIdeal.Trip.b11
  rw [← al_10 h]
  try rfl
set_option maxRecDepth 8192 in
theorem al_12 (h : Holds V0 s j) : (addf (Host.dotGeneral dot_S16384x1024_S1024x128_S16384x128_1_0_0_1_n_n none (Host.tanh (addf (Host.dotGeneral dot_S16384x64_S64x1024_S16384x1024_1_0_0_1_n_n none (V0 (Proc.devRef .tc main_v23_7)) (transpose S64x1024 [1, 0] (V0 (Proc.devRef .tc main_v23_1)) transposes_S1024x64_S64x1024_1_0)) (broadcastInDim S16384x1024 ![0, 1] bcast_S1x1024_S16384x1024_0_1 (broadcastInDim S1x1024 ![1] bcast_S1024_S1x1024_1 (V0 (Proc.devRef .tc main_v23_2)))))) (transpose S1024x128 [1, 0] (V0 (Proc.devRef .tc main_v23_3)) transposes_S128x1024_S1024x128_1_0)) (broadcastInDim S16384x128 ![0, 1] bcast_S1x128_S16384x128_0_1 (broadcastInDim S1x128 ![1] bcast_S128_S1x128_1 (V0 (Proc.devRef .tc main_v23_4)))) : (Proc.devRef .tc main_while0b_v44 : DevRef τ sig).ty.Contents (Elt F)) = Cert.ReferenceIdeal.Trip.b12 j s := by
  unfold Cert.ReferenceIdeal.Trip.b12
  rw [← al_9 h, ← al_11 h]
  try rfl
set_option maxRecDepth 8192 in
theorem al_13 (h : Holds V0 s j) : (constant S_ .f32 0xC1200000#32 : (Proc.devRef .tc main_while0b_cst_12 : DevRef τ sig).ty.Contents (Elt F)) = Cert.ReferenceIdeal.Trip.b13 j s := by
  unfold Cert.ReferenceIdeal.Trip.b13
  rfl
set_option maxRecDepth 8192 in
theorem al_14 (h : Holds V0 s j) : (constant S_ .f32 0x41200000#32 : (Proc.devRef .tc main_while0b_cst_13 : DevRef τ sig).ty.Contents (Elt F)) = Cert.ReferenceIdeal.Trip.b14 j s := by
  unfold Cert.ReferenceIdeal.Trip.b14
  rfl
set_option maxRecDepth 8192 in
theorem al_15 (h : Holds V0 s j) : (id (constant S_ .f32 0xC1200000#32) : (Proc.devRef .tc main_while0b_call1_v0 : DevRef τ sig).ty.Contents (Elt F)) = Cert.ReferenceIdeal.Trip.b15 j s := by
  unfold Cert.ReferenceIdeal.Trip.b15
  rw [← al_13 h]
  try rfl
set_option maxRecDepth 8192 in
theorem al_16 (h : Holds V0 s j) : (broadcastInDim S16384x128 ![] bcast_S_S16384x128 (id (constant S_ .f32 0xC1200000#32)) : (Proc.devRef .tc main_while0b_call1_v1 : DevRef τ sig).ty.Contents (Elt F)) = Cert.ReferenceIdeal.Trip.b16 j s := by
  unfold Cert.ReferenceIdeal.Trip.b16
  rw [← al_15 h]
  try rfl
set_option maxRecDepth 8192 in
theorem al_17 (h : Holds V0 s j) : (maximumf (broadcastInDim S16384x128 ![] bcast_S_S16384x128 (id (constant S_ .f32 0xC1200000#32))) (addf (Host.dotGeneral dot_S16384x1024_S1024x128_S16384x128_1_0_0_1_n_n none (Host.tanh (addf (Host.dotGeneral dot_S16384x64_S64x1024_S16384x1024_1_0_0_1_n_n none (V0 (Proc.devRef .tc main_v23_7)) (transpose S64x1024 [1, 0] (V0 (Proc.devRef .tc main_v23_1)) transposes_S1024x64_S64x1024_1_0)) (broadcastInDim S16384x1024 ![0, 1] bcast_S1x1024_S16384x1024_0_1 (broadcastInDim S1x1024 ![1] bcast_S1024_S1x1024_1 (V0 (Proc.devRef .tc main_v23_2)))))) (transpose S1024x128 [1, 0] (V0 (Proc.devRef .tc main_v23_3)) transposes_S128x1024_S1024x128_1_0)) (broadcastInDim S16384x128 ![0, 1] bcast_S1x128_S16384x128_0_1 (broadcastInDim S1x128 ![1] bcast_S128_S1x128_1 (V0 (Proc.devRef .tc main_v23_4))))) : (Proc.devRef .tc main_while0b_call1_v2 : DevRef τ sig).ty.Contents (Elt F)) = Cert.ReferenceIdeal.Trip.b17 j s := by
  unfold Cert.ReferenceIdeal.Trip.b17
  rw [← al_16 h, ← al_12 h]
  try rfl
set_option maxRecDepth 8192 in
theorem al_18 (h : Holds V0 s j) : (id (constant S_ .f32 0x41200000#32) : (Proc.devRef .tc main_while0b_call1_v3 : DevRef τ sig).ty.Contents (Elt F)) = Cert.ReferenceIdeal.Trip.b18 j s := by
  unfold Cert.ReferenceIdeal.Trip.b18
  rw [← al_14 h]
  try rfl
set_option maxRecDepth 8192 in
theorem al_19 (h : Holds V0 s j) : (broadcastInDim S16384x128 ![] bcast_S_S16384x128 (id (constant S_ .f32 0x41200000#32)) : (Proc.devRef .tc main_while0b_call1_v4 : DevRef τ sig).ty.Contents (Elt F)) = Cert.ReferenceIdeal.Trip.b19 j s := by
  unfold Cert.ReferenceIdeal.Trip.b19
  rw [← al_18 h]
  try rfl
set_option maxRecDepth 8192 in
theorem al_20 (h : Holds V0 s j) : (res_main_while0b_v45 V0 : (Proc.devRef .tc main_while0b_v45 : DevRef τ sig).ty.Contents (Elt F)) = Cert.ReferenceIdeal.Trip.b20 j s := by
  unfold res_main_while0b_v45 Cert.ReferenceIdeal.Trip.b20
  rw [← al_19 h, ← al_17 h]
  try rfl
set_option maxRecDepth 8192 in
theorem al_21 (h : Holds V0 s j) : (extractStridedSlice S16384x64 ![0, 0] (res_main_while0b_v45 V0) slices_S16384x128_S16384x64_0_0 : (Proc.devRef .tc main_while0b_v46 : DevRef τ sig).ty.Contents (Elt F)) = Cert.ReferenceIdeal.Trip.b21 j s := by
  unfold Cert.ReferenceIdeal.Trip.b21
  rw [← al_20 h]
  try rfl
set_option maxRecDepth 8192 in
theorem al_22 (h : Holds V0 s j) : (extractStridedSlice S16384x64 ![0, 64] (res_main_while0b_v45 V0) slices_S16384x128_S16384x64_0_64 : (Proc.devRef .tc main_while0b_v47 : DevRef τ sig).ty.Contents (Elt F)) = Cert.ReferenceIdeal.Trip.b22 j s := by
  unfold Cert.ReferenceIdeal.Trip.b22
  rw [← al_20 h]
  try rfl
set_option maxRecDepth 8192 in
theorem al_23 (h : Holds V0 s j) : (constant S_ .f32 0xC1200000#32 : (Proc.devRef .tc main_while0b_cst_14 : DevRef τ sig).ty.Contents (Elt F)) = Cert.ReferenceIdeal.Trip.b23 j s := by
  unfold Cert.ReferenceIdeal.Trip.b23
  rfl
set_option maxRecDepth 8192 in
theorem al_24 (h : Holds V0 s j) : (constant S_ .f32 0x41200000#32 : (Proc.devRef .tc main_while0b_cst_15 : DevRef τ sig).ty.Contents (Elt F)) = Cert.ReferenceIdeal.Trip.b24 j s := by
  unfold Cert.ReferenceIdeal.Trip.b24
  rfl
set_option maxRecDepth 8192 in
theorem al_25 (h : Holds V0 s j) : (id (constant S_ .f32 0xC1200000#32) : (Proc.devRef .tc main_while0b_call2_v0 : DevRef τ sig).ty.Contents (Elt F)) = Cert.ReferenceIdeal.Trip.b25 j s := by
  unfold Cert.ReferenceIdeal.Trip.b25
  rw [← al_23 h]
  try rfl
set_option maxRecDepth 8192 in
theorem al_26 (h : Holds V0 s j) : (broadcastInDim S16384x64 ![] bcast_S_S16384x64 (id (constant S_ .f32 0xC1200000#32)) : (Proc.devRef .tc main_while0b_call2_v1 : DevRef τ sig).ty.Contents (Elt F)) = Cert.ReferenceIdeal.Trip.b26 j s := by
  unfold Cert.ReferenceIdeal.Trip.b26
  rw [← al_25 h]
  try rfl
set_option maxRecDepth 8192 in
theorem al_27 (h : Holds V0 s j) : (maximumf (broadcastInDim S16384x64 ![] bcast_S_S16384x64 (id (constant S_ .f32 0xC1200000#32))) (extractStridedSlice S16384x64 ![0, 64] (res_main_while0b_v45 V0) slices_S16384x128_S16384x64_0_64) : (Proc.devRef .tc main_while0b_call2_v2 : DevRef τ sig).ty.Contents (Elt F)) = Cert.ReferenceIdeal.Trip.b27 j s := by
  unfold Cert.ReferenceIdeal.Trip.b27
  rw [← al_26 h, ← al_22 h]
  try rfl
set_option maxRecDepth 8192 in
theorem al_28 (h : Holds V0 s j) : (id (constant S_ .f32 0x41200000#32) : (Proc.devRef .tc main_while0b_call2_v3 : DevRef τ sig).ty.Contents (Elt F)) = Cert.ReferenceIdeal.Trip.b28 j s := by
  unfold Cert.ReferenceIdeal.Trip.b28
  rw [← al_24 h]
  try rfl
set_option maxRecDepth 8192 in
theorem al_29 (h : Holds V0 s j) : (broadcastInDim S16384x64 ![] bcast_S_S16384x64 (id (constant S_ .f32 0x41200000#32)) : (Proc.devRef .tc main_while0b_call2_v4 : DevRef τ sig).ty.Contents (Elt F)) = Cert.ReferenceIdeal.Trip.b29 j s := by
  unfold Cert.ReferenceIdeal.Trip.b29
  rw [← al_28 h]
  try rfl
set_option maxRecDepth 8192 in
theorem al_30 (h : Holds V0 s j) : (minimumf (broadcastInDim S16384x64 ![] bcast_S_S16384x64 (id (constant S_ .f32 0x41200000#32))) (maximumf (broadcastInDim S16384x64 ![] bcast_S_S16384x64 (id (constant S_ .f32 0xC1200000#32))) (extractStridedSlice S16384x64 ![0, 64] (res_main_while0b_v45 V0) slices_S16384x128_S16384x64_0_64)) : (Proc.devRef .tc main_while0b_v48 : DevRef τ sig).ty.Contents (Elt F)) = Cert.ReferenceIdeal.Trip.b30 j s := by
  unfold Cert.ReferenceIdeal.Trip.b30
  rw [← al_29 h, ← al_27 h]
  try rfl
set_option maxRecDepth 8192 in
theorem al_31 (h : Holds V0 s j) : (constantI S_ 32 0#32 : (Proc.devRef .tc main_while0b_c_16 : DevRef τ sig).ty.Contents (Elt F)) = Cert.ReferenceIdeal.Trip.b31 j s := by
  unfold Cert.ReferenceIdeal.Trip.b31
  rfl
set_option maxRecDepth 8192 in
theorem al_32 (h : Holds V0 s j) : (constantI S_ 32 0#32 : (Proc.devRef .tc main_while0b_c_17 : DevRef τ sig).ty.Contents (Elt F)) = Cert.ReferenceIdeal.Trip.b32 j s := by
  unfold Cert.ReferenceIdeal.Trip.b32
  rfl
set_option maxRecDepth 8192 in
theorem al_33 (h : Holds V0 s j) : (cmpi .slt (constantI S_ 32 0#32) (constantI S_ 32 0#32) : (Proc.devRef .tc main_while0b_v49 : DevRef τ sig).ty.Contents (Elt F)) = Cert.ReferenceIdeal.Trip.b33 j s := by
  unfold Cert.ReferenceIdeal.Trip.b33
  rw [← al_31 h, ← al_32 h]
  try rfl
set_option maxRecDepth 8192 in
theorem al_34 (h : Holds V0 s j) : (constantI S_ 32 0#32 : (Proc.devRef .tc main_while0b_c_18 : DevRef τ sig).ty.Contents (Elt F)) = Cert.ReferenceIdeal.Trip.b34 j s := by
  unfold Cert.ReferenceIdeal.Trip.b34
  rfl
set_option maxRecDepth 8192 in
theorem al_35 (h : Holds V0 s j) : (constantI S_ 32 16384#32 : (Proc.devRef .tc main_while0b_c_19 : DevRef τ sig).ty.Contents (Elt F)) = Cert.ReferenceIdeal.Trip.b35 j s := by
  unfold Cert.ReferenceIdeal.Trip.b35
  rfl
set_option maxRecDepth 8192 in
theorem al_36 (h : Holds V0 s j) : (addi (constantI S_ 32 0#32) (constantI S_ 32 16384#32) : (Proc.devRef .tc main_while0b_v50 : DevRef τ sig).ty.Contents (Elt F)) = Cert.ReferenceIdeal.Trip.b36 j s := by
  unfold Cert.ReferenceIdeal.Trip.b36
  rw [← al_34 h, ← al_35 h]
  try rfl
set_option maxRecDepth 8192 in
theorem al_37 (h : Holds V0 s j) : (constantI S_ 32 0#32 : (Proc.devRef .tc main_while0b_c_20 : DevRef τ sig).ty.Contents (Elt F)) = Cert.ReferenceIdeal.Trip.b37 j s := by
  unfold Cert.ReferenceIdeal.Trip.b37
  rfl
set_option maxRecDepth 8192 in
theorem al_38 (h : Holds V0 s j) : (select (cmpi .slt (constantI S_ 32 0#32) (constantI S_ 32 0#32)) (addi (constantI S_ 32 0#32) (constantI S_ 32 16384#32)) (constantI S_ 32 0#32) : (Proc.devRef .tc main_while0b_v51 : DevRef τ sig).ty.Contents (Elt F)) = Cert.ReferenceIdeal.Trip.b38 j s := by
  unfold Cert.ReferenceIdeal.Trip.b38
  rw [← al_33 h, ← al_36 h, ← al_37 h]
  try rfl
set_option maxRecDepth 8192 in
theorem al_39 (h : Holds V0 s j) : (constantI S_ 32 0#32 : (Proc.devRef .tc main_while0b_c_21 : DevRef τ sig).ty.Contents (Elt F)) = Cert.ReferenceIdeal.Trip.b39 j s := by
  unfold Cert.ReferenceIdeal.Trip.b39
  rfl
set_option maxRecDepth 8192 in
theorem al_40 (h : Holds V0 s j) : (cmpi .slt (res_main_while0b_v33 V0) (constantI S_ 32 0#32) : (Proc.devRef .tc main_while0b_v52 : DevRef τ sig).ty.Contents (Elt F)) = Cert.ReferenceIdeal.Trip.b40 j s := by
  unfold Cert.ReferenceIdeal.Trip.b40
  rw [← al_1 h, ← al_39 h]
  try rfl
set_option maxRecDepth 8192 in
theorem al_41 (h : Holds V0 s j) : (constantI S_ 32 64#32 : (Proc.devRef .tc main_while0b_c_22 : DevRef τ sig).ty.Contents (Elt F)) = Cert.ReferenceIdeal.Trip.b41 j s := by
  unfold Cert.ReferenceIdeal.Trip.b41
  rfl
set_option maxRecDepth 8192 in
theorem al_42 (h : Holds V0 s j) : (addi (res_main_while0b_v33 V0) (constantI S_ 32 64#32) : (Proc.devRef .tc main_while0b_v53 : DevRef τ sig).ty.Contents (Elt F)) = Cert.ReferenceIdeal.Trip.b42 j s := by
  unfold Cert.ReferenceIdeal.Trip.b42
  rw [← al_1 h, ← al_41 h]
  try rfl
set_option maxRecDepth 8192 in
theorem al_43 (h : Holds V0 s j) : (select (cmpi .slt (res_main_while0b_v33 V0) (constantI S_ 32 0#32)) (addi (res_main_while0b_v33 V0) (constantI S_ 32 64#32)) (res_main_while0b_v33 V0) : (Proc.devRef .tc main_while0b_v54 : DevRef τ sig).ty.Contents (Elt F)) = Cert.ReferenceIdeal.Trip.b43 j s := by
  unfold Cert.ReferenceIdeal.Trip.b43
  rw [← al_40 h, ← al_42 h, ← al_1 h]
  try rfl
set_option maxRecDepth 8192 in
theorem al_44 (h : Holds V0 s j) : (Host.dynamicSlice S16384x1 (minimumf (broadcastInDim S16384x64 ![] bcast_S_S16384x64 (id (constant S_ .f32 0x41200000#32))) (maximumf (broadcastInDim S16384x64 ![] bcast_S_S16384x64 (id (constant S_ .f32 0xC1200000#32))) (extractStridedSlice S16384x64 ![0, 64] (res_main_while0b_v45 V0) slices_S16384x128_S16384x64_0_64))) (fun k => (((![select (cmpi .slt (constantI S_ 32 0#32) (constantI S_ 32 0#32)) (addi (constantI S_ 32 0#32) (constantI S_ 32 16384#32)) (constantI S_ 32 0#32), select (cmpi .slt (res_main_while0b_v33 V0) (constantI S_ 32 0#32)) (addi (res_main_while0b_v33 V0) (constantI S_ 32 64#32)) (res_main_while0b_v33 V0)] : Fin 2 → (⟨S_, .i32⟩ : BufTy).Contents (Elt F))) k (Shape.Idx.first h_S_)).toInt) sliceFits_S16384x64_S16384x1 : (Proc.devRef .tc main_while0b_v55 : DevRef τ sig).ty.Contents (Elt F)) = Cert.ReferenceIdeal.Trip.b44 j s := by
  unfold Cert.ReferenceIdeal.Trip.b44
  rw [← al_30 h, ← al_38 h, ← al_43 h]
  try rfl
set_option maxRecDepth 8192 in
theorem al_45 (h : Holds V0 s j) : (res_main_while0b_v56 V0 : (Proc.devRef .tc main_while0b_v56 : DevRef τ sig).ty.Contents (Elt F)) = Cert.ReferenceIdeal.Trip.b45 j s := by
  unfold res_main_while0b_v56 Cert.ReferenceIdeal.Trip.b45
  rw [← al_44 h]
  try rfl
set_option maxRecDepth 8192 in
theorem al_46 (h : Holds V0 s j) : (constantI S_ 32 0#32 : (Proc.devRef .tc main_while0b_c_23 : DevRef τ sig).ty.Contents (Elt F)) = Cert.ReferenceIdeal.Trip.b46 j s := by
  unfold Cert.ReferenceIdeal.Trip.b46
  rfl
set_option maxRecDepth 8192 in
theorem al_47 (h : Holds V0 s j) : (constantI S_ 32 0#32 : (Proc.devRef .tc main_while0b_c_24 : DevRef τ sig).ty.Contents (Elt F)) = Cert.ReferenceIdeal.Trip.b47 j s := by
  unfold Cert.ReferenceIdeal.Trip.b47
  rfl
set_option maxRecDepth 8192 in
theorem al_48 (h : Holds V0 s j) : (cmpi .slt (constantI S_ 32 0#32) (constantI S_ 32 0#32) : (Proc.devRef .tc main_while0b_v57 : DevRef τ sig).ty.Contents (Elt F)) = Cert.ReferenceIdeal.Trip.b48 j s := by
  unfold Cert.ReferenceIdeal.Trip.b48
  rw [← al_46 h, ← al_47 h]
  try rfl
set_option maxRecDepth 8192 in
theorem al_49 (h : Holds V0 s j) : (constantI S_ 32 0#32 : (Proc.devRef .tc main_while0b_c_25 : DevRef τ sig).ty.Contents (Elt F)) = Cert.ReferenceIdeal.Trip.b49 j s := by
  unfold Cert.ReferenceIdeal.Trip.b49
  rfl
set_option maxRecDepth 8192 in
theorem al_50 (h : Holds V0 s j) : (constantI S_ 32 16384#32 : (Proc.devRef .tc main_while0b_c_26 : DevRef τ sig).ty.Contents (Elt F)) = Cert.ReferenceIdeal.Trip.b50 j s := by
  unfold Cert.ReferenceIdeal.Trip.b50
  rfl
set_option maxRecDepth 8192 in
theorem al_51 (h : Holds V0 s j) : (addi (constantI S_ 32 0#32) (constantI S_ 32 16384#32) : (Proc.devRef .tc main_while0b_v58 : DevRef τ sig).ty.Contents (Elt F)) = Cert.ReferenceIdeal.Trip.b51 j s := by
  unfold Cert.ReferenceIdeal.Trip.b51
  rw [← al_49 h, ← al_50 h]
  try rfl
set_option maxRecDepth 8192 in
theorem al_52 (h : Holds V0 s j) : (constantI S_ 32 0#32 : (Proc.devRef .tc main_while0b_c_27 : DevRef τ sig).ty.Contents (Elt F)) = Cert.ReferenceIdeal.Trip.b52 j s := by
  unfold Cert.ReferenceIdeal.Trip.b52
  rfl
set_option maxRecDepth 8192 in
theorem al_53 (h : Holds V0 s j) : (select (cmpi .slt (constantI S_ 32 0#32) (constantI S_ 32 0#32)) (addi (constantI S_ 32 0#32) (constantI S_ 32 16384#32)) (constantI S_ 32 0#32) : (Proc.devRef .tc main_while0b_v59 : DevRef τ sig).ty.Contents (Elt F)) = Cert.ReferenceIdeal.Trip.b53 j s := by
  unfold Cert.ReferenceIdeal.Trip.b53
  rw [← al_48 h, ← al_51 h, ← al_52 h]
  try rfl
set_option maxRecDepth 8192 in
theorem al_54 (h : Holds V0 s j) : (constantI S_ 32 0#32 : (Proc.devRef .tc main_while0b_c_28 : DevRef τ sig).ty.Contents (Elt F)) = Cert.ReferenceIdeal.Trip.b54 j s := by
  unfold Cert.ReferenceIdeal.Trip.b54
  rfl
set_option maxRecDepth 8192 in
theorem al_55 (h : Holds V0 s j) : (cmpi .slt (res_main_while0b_v33 V0) (constantI S_ 32 0#32) : (Proc.devRef .tc main_while0b_v60 : DevRef τ sig).ty.Contents (Elt F)) = Cert.ReferenceIdeal.Trip.b55 j s := by
  unfold Cert.ReferenceIdeal.Trip.b55
  rw [← al_1 h, ← al_54 h]
  try rfl
set_option maxRecDepth 8192 in
theorem al_56 (h : Holds V0 s j) : (constantI S_ 32 64#32 : (Proc.devRef .tc main_while0b_c_29 : DevRef τ sig).ty.Contents (Elt F)) = Cert.ReferenceIdeal.Trip.b56 j s := by
  unfold Cert.ReferenceIdeal.Trip.b56
  rfl
set_option maxRecDepth 8192 in
theorem al_57 (h : Holds V0 s j) : (addi (res_main_while0b_v33 V0) (constantI S_ 32 64#32) : (Proc.devRef .tc main_while0b_v61 : DevRef τ sig).ty.Contents (Elt F)) = Cert.ReferenceIdeal.Trip.b57 j s := by
  unfold Cert.ReferenceIdeal.Trip.b57
  rw [← al_1 h, ← al_56 h]
  try rfl
set_option maxRecDepth 8192 in
theorem al_58 (h : Holds V0 s j) : (select (cmpi .slt (res_main_while0b_v33 V0) (constantI S_ 32 0#32)) (addi (res_main_while0b_v33 V0) (constantI S_ 32 64#32)) (res_main_while0b_v33 V0) : (Proc.devRef .tc main_while0b_v62 : DevRef τ sig).ty.Contents (Elt F)) = Cert.ReferenceIdeal.Trip.b58 j s := by
  unfold Cert.ReferenceIdeal.Trip.b58
  rw [← al_55 h, ← al_57 h, ← al_1 h]
  try rfl
set_option maxRecDepth 8192 in
theorem al_59 (h : Holds V0 s j) : (Host.dynamicSlice S16384x1 (V0 (Proc.devRef .tc main_v23_5)) (fun k => (((![select (cmpi .slt (constantI S_ 32 0#32) (constantI S_ 32 0#32)) (addi (constantI S_ 32 0#32) (constantI S_ 32 16384#32)) (constantI S_ 32 0#32), select (cmpi .slt (res_main_while0b_v33 V0) (constantI S_ 32 0#32)) (addi (res_main_while0b_v33 V0) (constantI S_ 32 64#32)) (res_main_while0b_v33 V0)] : Fin 2 → (⟨S_, .i32⟩ : BufTy).Contents (Elt F))) k (Shape.Idx.first h_S_)).toInt) sliceFits_S16384x64_S16384x1 : (Proc.devRef .tc main_while0b_v63 : DevRef τ sig).ty.Contents (Elt F)) = Cert.ReferenceIdeal.Trip.b59 j s := by
  unfold Cert.ReferenceIdeal.Trip.b59
  rw [← al_53 h, ← al_58 h, h.f_5]
  try rfl
set_option maxRecDepth 8192 in
theorem al_60 (h : Holds V0 s j) : (shapeCast S16384 (Host.dynamicSlice S16384x1 (V0 (Proc.devRef .tc main_v23_5)) (fun k => (((![select (cmpi .slt (constantI S_ 32 0#32) (constantI S_ 32 0#32)) (addi (constantI S_ 32 0#32) (constantI S_ 32 16384#32)) (constantI S_ 32 0#32), select (cmpi .slt (res_main_while0b_v33 V0) (constantI S_ 32 0#32)) (addi (res_main_while0b_v33 V0) (constantI S_ 32 64#32)) (res_main_while0b_v33 V0)] : Fin 2 → (⟨S_, .i32⟩ : BufTy).Contents (Elt F))) k (Shape.Idx.first h_S_)).toInt) sliceFits_S16384x64_S16384x1) shapeCasts_S16384x1_S16384 : (Proc.devRef .tc main_while0b_v64 : DevRef τ sig).ty.Contents (Elt F)) = Cert.ReferenceIdeal.Trip.b60 j s := by
  unfold Cert.ReferenceIdeal.Trip.b60
  rw [← al_59 h]
  try rfl
set_option maxRecDepth 8192 in
theorem al_61 (h : Holds V0 s j) : (Host.exp (res_main_while0b_v56 V0) : (Proc.devRef .tc main_while0b_v65 : DevRef τ sig).ty.Contents (Elt F)) = Cert.ReferenceIdeal.Trip.b61 j s := by
  unfold Cert.ReferenceIdeal.Trip.b61
  rw [← al_45 h]
  try rfl
set_option maxRecDepth 8192 in
theorem al_62 (h : Holds V0 s j) : (mulf (shapeCast S16384 (Host.dynamicSlice S16384x1 (V0 (Proc.devRef .tc main_v23_5)) (fun k => (((![select (cmpi .slt (constantI S_ 32 0#32) (constantI S_ 32 0#32)) (addi (constantI S_ 32 0#32) (constantI S_ 32 16384#32)) (constantI S_ 32 0#32), select (cmpi .slt (res_main_while0b_v33 V0) (constantI S_ 32 0#32)) (addi (res_main_while0b_v33 V0) (constantI S_ 32 64#32)) (res_main_while0b_v33 V0)] : Fin 2 → (⟨S_, .i32⟩ : BufTy).Contents (Elt F))) k (Shape.Idx.first h_S_)).toInt) sliceFits_S16384x64_S16384x1) shapeCasts_S16384x1_S16384) (Host.exp (res_main_while0b_v56 V0)) : (Proc.devRef .tc main_while0b_v66 : DevRef τ sig).ty.Contents (Elt F)) = Cert.ReferenceIdeal.Trip.b62 j s := by
  unfold Cert.ReferenceIdeal.Trip.b62
  rw [← al_60 h, ← al_61 h]
  try rfl
set_option maxRecDepth 8192 in
theorem al_63 (h : Holds V0 s j) : (constantI S_ 32 0#32 : (Proc.devRef .tc main_while0b_c_30 : DevRef τ sig).ty.Contents (Elt F)) = Cert.ReferenceIdeal.Trip.b63 j s := by
  unfold Cert.ReferenceIdeal.Trip.b63
  rfl
set_option maxRecDepth 8192 in
theorem al_64 (h : Holds V0 s j) : (constantI S_ 32 0#32 : (Proc.devRef .tc main_while0b_c_31 : DevRef τ sig).ty.Contents (Elt F)) = Cert.ReferenceIdeal.Trip.b64 j s := by
  unfold Cert.ReferenceIdeal.Trip.b64
  rfl
set_option maxRecDepth 8192 in
theorem al_65 (h : Holds V0 s j) : (cmpi .slt (constantI S_ 32 0#32) (constantI S_ 32 0#32) : (Proc.devRef .tc main_while0b_v67 : DevRef τ sig).ty.Contents (Elt F)) = Cert.ReferenceIdeal.Trip.b65 j s := by
  unfold Cert.ReferenceIdeal.Trip.b65
  rw [← al_63 h, ← al_64 h]
  try rfl
set_option maxRecDepth 8192 in
theorem al_66 (h : Holds V0 s j) : (constantI S_ 32 0#32 : (Proc.devRef .tc main_while0b_c_32 : DevRef τ sig).ty.Contents (Elt F)) = Cert.ReferenceIdeal.Trip.b66 j s := by
  unfold Cert.ReferenceIdeal.Trip.b66
  rfl
set_option maxRecDepth 8192 in
theorem al_67 (h : Holds V0 s j) : (constantI S_ 32 16384#32 : (Proc.devRef .tc main_while0b_c_33 : DevRef τ sig).ty.Contents (Elt F)) = Cert.ReferenceIdeal.Trip.b67 j s := by
  unfold Cert.ReferenceIdeal.Trip.b67
  rfl
set_option maxRecDepth 8192 in
theorem al_68 (h : Holds V0 s j) : (addi (constantI S_ 32 0#32) (constantI S_ 32 16384#32) : (Proc.devRef .tc main_while0b_v68 : DevRef τ sig).ty.Contents (Elt F)) = Cert.ReferenceIdeal.Trip.b68 j s := by
  unfold Cert.ReferenceIdeal.Trip.b68
  rw [← al_66 h, ← al_67 h]
  try rfl
set_option maxRecDepth 8192 in
theorem al_69 (h : Holds V0 s j) : (constantI S_ 32 0#32 : (Proc.devRef .tc main_while0b_c_34 : DevRef τ sig).ty.Contents (Elt F)) = Cert.ReferenceIdeal.Trip.b69 j s := by
  unfold Cert.ReferenceIdeal.Trip.b69
  rfl
set_option maxRecDepth 8192 in
theorem al_70 (h : Holds V0 s j) : (select (cmpi .slt (constantI S_ 32 0#32) (constantI S_ 32 0#32)) (addi (constantI S_ 32 0#32) (constantI S_ 32 16384#32)) (constantI S_ 32 0#32) : (Proc.devRef .tc main_while0b_v69 : DevRef τ sig).ty.Contents (Elt F)) = Cert.ReferenceIdeal.Trip.b70 j s := by
  unfold Cert.ReferenceIdeal.Trip.b70
  rw [← al_65 h, ← al_68 h, ← al_69 h]
  try rfl
set_option maxRecDepth 8192 in
theorem al_71 (h : Holds V0 s j) : (constantI S_ 32 0#32 : (Proc.devRef .tc main_while0b_c_35 : DevRef τ sig).ty.Contents (Elt F)) = Cert.ReferenceIdeal.Trip.b71 j s := by
  unfold Cert.ReferenceIdeal.Trip.b71
  rfl
set_option maxRecDepth 8192 in
theorem al_72 (h : Holds V0 s j) : (cmpi .slt (res_main_while0b_v33 V0) (constantI S_ 32 0#32) : (Proc.devRef .tc main_while0b_v70 : DevRef τ sig).ty.Contents (Elt F)) = Cert.ReferenceIdeal.Trip.b72 j s := by
  unfold Cert.ReferenceIdeal.Trip.b72
  rw [← al_1 h, ← al_71 h]
  try rfl
set_option maxRecDepth 8192 in
theorem al_73 (h : Holds V0 s j) : (constantI S_ 32 64#32 : (Proc.devRef .tc main_while0b_c_36 : DevRef τ sig).ty.Contents (Elt F)) = Cert.ReferenceIdeal.Trip.b73 j s := by
  unfold Cert.ReferenceIdeal.Trip.b73
  rfl
set_option maxRecDepth 8192 in
theorem al_74 (h : Holds V0 s j) : (addi (res_main_while0b_v33 V0) (constantI S_ 32 64#32) : (Proc.devRef .tc main_while0b_v71 : DevRef τ sig).ty.Contents (Elt F)) = Cert.ReferenceIdeal.Trip.b74 j s := by
  unfold Cert.ReferenceIdeal.Trip.b74
  rw [← al_1 h, ← al_73 h]
  try rfl
set_option maxRecDepth 8192 in
theorem al_75 (h : Holds V0 s j) : (select (cmpi .slt (res_main_while0b_v33 V0) (constantI S_ 32 0#32)) (addi (res_main_while0b_v33 V0) (constantI S_ 32 64#32)) (res_main_while0b_v33 V0) : (Proc.devRef .tc main_while0b_v72 : DevRef τ sig).ty.Contents (Elt F)) = Cert.ReferenceIdeal.Trip.b75 j s := by
  unfold Cert.ReferenceIdeal.Trip.b75
  rw [← al_72 h, ← al_74 h, ← al_1 h]
  try rfl
set_option maxRecDepth 8192 in
theorem al_76 (h : Holds V0 s j) : (Host.dynamicSlice S16384x1 (extractStridedSlice S16384x64 ![0, 0] (res_main_while0b_v45 V0) slices_S16384x128_S16384x64_0_0) (fun k => (((![select (cmpi .slt (constantI S_ 32 0#32) (constantI S_ 32 0#32)) (addi (constantI S_ 32 0#32) (constantI S_ 32 16384#32)) (constantI S_ 32 0#32), select (cmpi .slt (res_main_while0b_v33 V0) (constantI S_ 32 0#32)) (addi (res_main_while0b_v33 V0) (constantI S_ 32 64#32)) (res_main_while0b_v33 V0)] : Fin 2 → (⟨S_, .i32⟩ : BufTy).Contents (Elt F))) k (Shape.Idx.first h_S_)).toInt) sliceFits_S16384x64_S16384x1 : (Proc.devRef .tc main_while0b_v73 : DevRef τ sig).ty.Contents (Elt F)) = Cert.ReferenceIdeal.Trip.b76 j s := by
  unfold Cert.ReferenceIdeal.Trip.b76
  rw [← al_21 h, ← al_70 h, ← al_75 h]
  try rfl
set_option maxRecDepth 8192 in
theorem al_77 (h : Holds V0 s j) : (shapeCast S16384 (Host.dynamicSlice S16384x1 (extractStridedSlice S16384x64 ![0, 0] (res_main_while0b_v45 V0) slices_S16384x128_S16384x64_0_0) (fun k => (((![select (cmpi .slt (constantI S_ 32 0#32) (constantI S_ 32 0#32)) (addi (constantI S_ 32 0#32) (constantI S_ 32 16384#32)) (constantI S_ 32 0#32), select (cmpi .slt (res_main_while0b_v33 V0) (constantI S_ 32 0#32)) (addi (res_main_while0b_v33 V0) (constantI S_ 32 64#32)) (res_main_while0b_v33 V0)] : Fin 2 → (⟨S_, .i32⟩ : BufTy).Contents (Elt F))) k (Shape.Idx.first h_S_)).toInt) sliceFits_S16384x64_S16384x1) shapeCasts_S16384x1_S16384 : (Proc.devRef .tc main_while0b_v74 : DevRef τ sig).ty.Contents (Elt F)) = Cert.ReferenceIdeal.Trip.b77 j s := by
  unfold Cert.ReferenceIdeal.Trip.b77
  rw [← al_76 h]
  try rfl
set_option maxRecDepth 8192 in
theorem al_78 (h : Holds V0 s j) : (addf (mulf (shapeCast S16384 (Host.dynamicSlice S16384x1 (V0 (Proc.devRef .tc main_v23_5)) (fun k => (((![select (cmpi .slt (constantI S_ 32 0#32) (constantI S_ 32 0#32)) (addi (constantI S_ 32 0#32) (constantI S_ 32 16384#32)) (constantI S_ 32 0#32), select (cmpi .slt (res_main_while0b_v33 V0) (constantI S_ 32 0#32)) (addi (res_main_while0b_v33 V0) (constantI S_ 32 64#32)) (res_main_while0b_v33 V0)] : Fin 2 → (⟨S_, .i32⟩ : BufTy).Contents (Elt F))) k (Shape.Idx.first h_S_)).toInt) sliceFits_S16384x64_S16384x1) shapeCasts_S16384x1_S16384) (Host.exp (res_main_while0b_v56 V0))) (shapeCast S16384 (Host.dynamicSlice S16384x1 (extractStridedSlice S16384x64 ![0, 0] (res_main_while0b_v45 V0) slices_S16384x128_S16384x64_0_0) (fun k => (((![select (cmpi .slt (constantI S_ 32 0#32) (constantI S_ 32 0#32)) (addi (constantI S_ 32 0#32) (constantI S_ 32 16384#32)) (constantI S_ 32 0#32), select (cmpi .slt (res_main_while0b_v33 V0) (constantI S_ 32 0#32)) (addi (res_main_while0b_v33 V0) (constantI S_ 32 64#32)) (res_main_while0b_v33 V0)] : Fin 2 → (⟨S_, .i32⟩ : BufTy).Contents (Elt F))) k (Shape.Idx.first h_S_)).toInt) sliceFits_S16384x64_S16384x1) shapeCasts_S16384x1_S16384) : (Proc.devRef .tc main_while0b_v75 : DevRef τ sig).ty.Contents (Elt F)) = Cert.ReferenceIdeal.Trip.b78 j s := by
  unfold Cert.ReferenceIdeal.Trip.b78
  rw [← al_62 h, ← al_77 h]
  try rfl
set_option maxRecDepth 8192 in
theorem al_79 (h : Holds V0 s j) : (constantI S_ 32 0#32 : (Proc.devRef .tc main_while0b_c_37 : DevRef τ sig).ty.Contents (Elt F)) = Cert.ReferenceIdeal.Trip.b79 j s := by
  unfold Cert.ReferenceIdeal.Trip.b79
  rfl
set_option maxRecDepth 8192 in
theorem al_80 (h : Holds V0 s j) : (cmpi .slt (res_main_while0b_v33 V0) (constantI S_ 32 0#32) : (Proc.devRef .tc main_while0b_v76 : DevRef τ sig).ty.Contents (Elt F)) = Cert.ReferenceIdeal.Trip.b80 j s := by
  unfold Cert.ReferenceIdeal.Trip.b80
  rw [← al_1 h, ← al_79 h]
  try rfl
set_option maxRecDepth 8192 in
theorem al_81 (h : Holds V0 s j) : (constantI S_ 32 64#32 : (Proc.devRef .tc main_while0b_c_38 : DevRef τ sig).ty.Contents (Elt F)) = Cert.ReferenceIdeal.Trip.b81 j s := by
  unfold Cert.ReferenceIdeal.Trip.b81
  rfl
set_option maxRecDepth 8192 in
theorem al_82 (h : Holds V0 s j) : (addi (res_main_while0b_v33 V0) (constantI S_ 32 64#32) : (Proc.devRef .tc main_while0b_v77 : DevRef τ sig).ty.Contents (Elt F)) = Cert.ReferenceIdeal.Trip.b82 j s := by
  unfold Cert.ReferenceIdeal.Trip.b82
  rw [← al_1 h, ← al_81 h]
  try rfl
set_option maxRecDepth 8192 in
theorem al_83 (h : Holds V0 s j) : (select (cmpi .slt (res_main_while0b_v33 V0) (constantI S_ 32 0#32)) (addi (res_main_while0b_v33 V0) (constantI S_ 32 64#32)) (res_main_while0b_v33 V0) : (Proc.devRef .tc main_while0b_v78 : DevRef τ sig).ty.Contents (Elt F)) = Cert.ReferenceIdeal.Trip.b83 j s := by
  unfold Cert.ReferenceIdeal.Trip.b83
  rw [← al_80 h, ← al_82 h, ← al_1 h]
  try rfl
set_option maxRecDepth 8192 in
theorem al_84 (h : Holds V0 s j) : (broadcastInDim S1 ![] bcast_S_S1 (select (cmpi .slt (res_main_while0b_v33 V0) (constantI S_ 32 0#32)) (addi (res_main_while0b_v33 V0) (constantI S_ 32 64#32)) (res_main_while0b_v33 V0)) : (Proc.devRef .tc main_while0b_v79 : DevRef τ sig).ty.Contents (Elt F)) = Cert.ReferenceIdeal.Trip.b84 j s := by
  unfold Cert.ReferenceIdeal.Trip.b84
  rw [← al_83 h]
  try rfl
set_option maxRecDepth 8192 in
theorem al_85 (h : Holds V0 s j) : (Host.scatter scatter_S16384x64_S1_S16384_0_1_1_0 (fun _ b => b) (V0 (Proc.devRef .tc main_v23_7)) (broadcastInDim S1 ![] bcast_S_S1 (select (cmpi .slt (res_main_while0b_v33 V0) (constantI S_ 32 0#32)) (addi (res_main_while0b_v33 V0) (constantI S_ 32 64#32)) (res_main_while0b_v33 V0))) (addf (mulf (shapeCast S16384 (Host.dynamicSlice S16384x1 (V0 (Proc.devRef .tc main_v23_5)) (fun k => (((![select (cmpi .slt (constantI S_ 32 0#32) (constantI S_ 32 0#32)) (addi (constantI S_ 32 0#32) (constantI S_ 32 16384#32)) (constantI S_ 32 0#32), select (cmpi .slt (res_main_while0b_v33 V0) (constantI S_ 32 0#32)) (addi (res_main_while0b_v33 V0) (constantI S_ 32 64#32)) (res_main_while0b_v33 V0)] : Fin 2 → (⟨S_, .i32⟩ : BufTy).Contents (Elt F))) k (Shape.Idx.first h_S_)).toInt) sliceFits_S16384x64_S16384x1) shapeCasts_S16384x1_S16384) (Host.exp (res_main_while0b_v56 V0))) (shapeCast S16384 (Host.dynamicSlice S16384x1 (extractStridedSlice S16384x64 ![0, 0] (res_main_while0b_v45 V0) slices_S16384x128_S16384x64_0_0) (fun k => (((![select (cmpi .slt (constantI S_ 32 0#32) (constantI S_ 32 0#32)) (addi (constantI S_ 32 0#32) (constantI S_ 32 16384#32)) (constantI S_ 32 0#32), select (cmpi .slt (res_main_while0b_v33 V0) (constantI S_ 32 0#32)) (addi (res_main_while0b_v33 V0) (constantI S_ 32 64#32)) (res_main_while0b_v33 V0)] : Fin 2 → (⟨S_, .i32⟩ : BufTy).Contents (Elt F))) k (Shape.Idx.first h_S_)).toInt) sliceFits_S16384x64_S16384x1) shapeCasts_S16384x1_S16384)) : (Proc.devRef .tc main_while0b_v80 : DevRef τ sig).ty.Contents (Elt F)) = Cert.ReferenceIdeal.Trip.b85 j s := by
  unfold Cert.ReferenceIdeal.Trip.b85
  rw [← al_84 h, ← al_78 h, h.f_7]
  try rfl
set_option maxRecDepth 8192 in
theorem al_86 (h : Holds V0 s j) : (addf (V0 (Proc.devRef .tc main_v23_8)) (res_main_while0b_v56 V0) : (Proc.devRef .tc main_while0b_v81 : DevRef τ sig).ty.Contents (Elt F)) = Cert.ReferenceIdeal.Trip.b86 j s := by
  unfold Cert.ReferenceIdeal.Trip.b86
  rw [← al_45 h, h.f_8]
  try rfl

/-! One trip's step of the carried values is `step`, field by field; a counter steps to the next number. -/

set_option maxRecDepth 65536 in
theorem step_7 (h : Holds V0 s j) : step_main_v23_7 V0 = (step j s).main_v23_7 := by
  refine Eq.trans ?_ ((al_85 h).trans (Cert.ReferenceIdeal.Trip.step_main_v23_7 j s).symm)
  unfold step_main_v23_7
  with_reducible_and_instances exact id_eq _
theorem step_8 (h : Holds V0 s j) : step_main_v23_8 V0 = (step j s).main_v23_8 := by
  unfold step_main_v23_8 Cert.ReferenceIdeal.Trip.step
  show id (addf (V0 (Proc.devRef .tc main_v23_8)) (res_main_while0b_v56 V0)) = _
  rw [al_86 h]
  try rfl
theorem step_6 (h : Holds V0 s j) : step_main_v23_6 V0 = constantI S_ 32 (BitVec.ofNat 32 (j + 1)) := by
  unfold step_main_v23_6
  rw [h.n_6]
  funext i
  show BitVec.ofNat 32 j + 1#32 = BitVec.ofNat 32 (j + 1)
  simp only [BitVec.ofNat_add]

set_option maxRecDepth 8192 in
theorem out_main_v27_holds (h : Holds V0 s j) : out_main_v27 V0 = Cert.ReferenceIdeal.Trip.R_main_v27 s := by
  unfold out_main_v27 Cert.ReferenceIdeal.Trip.R_main_v27
  rw [h.f_7]
  try rfl

set_option maxRecDepth 8192 in
theorem out_main_v32_holds (h : Holds V0 s j) : out_main_v32 V0 = Cert.ReferenceIdeal.Trip.R_main_v32 s := by
  unfold out_main_v32 Cert.ReferenceIdeal.Trip.R_main_v32
  rw [h.f_8]
  try rfl

set_option maxRecDepth 65536 in
/-- One trip keeps the valuation holding: `step` of the state, the same set-up values, the next number. -/
theorem holds_step (h : Holds V0 s j) : Holds (STEP V0) (step j s) (j + 1) := by
  constructor
  · rw [STEP_main_v23_7]; exact step_7 h
  · rw [STEP_main_v23_8]; exact step_8 h
  · rw [STEP_main_v23_1, h.f_1]; unfold Cert.ReferenceIdeal.Trip.step; with_reducible rfl
  · rw [STEP_main_v23_2, h.f_2]; unfold Cert.ReferenceIdeal.Trip.step; with_reducible rfl
  · rw [STEP_main_v23_3, h.f_3]; unfold Cert.ReferenceIdeal.Trip.step; with_reducible rfl
  · rw [STEP_main_v23_4, h.f_4]; unfold Cert.ReferenceIdeal.Trip.step; with_reducible rfl
  · rw [STEP_main_v23_5, h.f_5]; unfold Cert.ReferenceIdeal.Trip.step; with_reducible rfl
  · rw [STEP_main_v23_6]; exact step_6 h
  · rw [STEP_main_v23_0]; exact h.k_0

/-- The state the first trip starts from, of the memory the run starts from. -/
abbrev initState (m : (ℓ : Loc nD τ sig) → Buf (Elt F) ℓ) (c : Dev nD) : State F :=
  init (m ((c.tc : Thread nD τ).loc main_arg2)) (m ((c.tc : Thread nD τ).loc main_arg4)) (m ((c.tc : Thread nD τ).loc main_arg0)) (m ((c.tc : Thread nD τ).loc main_arg1)) (m ((c.tc : Thread nD τ).loc main_arg3))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v27) = Cert.ReferenceIdeal.Trip.R_main_v27 (it c 64)
      ∧ r.2.mem ((c.tc : Thread nD τ).loc main_v32) = Cert.ReferenceIdeal.Trip.R_main_v32 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 64
    ⟨(h c).1.trans (out_main_v27_holds hk), (h c).2.1.trans (out_main_v32_holds hk), (h c).2.2.1, (h c).2.2.2.1, (h c).2.2.2.2.1, (h c).2.2.2.2.2.1, (h c).2.2.2.2.2.2⟩) (Value.run m ρ)

end Cert.ReferenceIdeal.TripRun

end
-- ==== Proof.RefValue.lean ====
/- What the reference computes: after `n` trips its carried row is the flow's row after `n` steps and its carried
   log-determinant the flow's; so its results are those after 64 steps, infinite values replaced by zero. -/
module

public import proofs.«01_k».proof.Proof.RefStep
public import proofs.«01_k».proof.Proof.RefTripRun

@[expose] public section

set_option maxRecDepth 16384

noncomputable section

namespace Cert.ReferenceIdeal.RefValue

open Idealize.ShloMosaic Idealize.ShloMosaic.TcCoe Idealize.ShloMosaic.StableHlo Idealize.ShloMosaic.Pointwise
open Cert.ReferenceIdeal Cert.ReferenceIdeal.Trip Cert.ReferenceIdeal.StepValue

/-- A trip leaves the network as it is. -/
theorem net_step (n : ℕ) (s : State Ideal) (r : Fin 16384) : net (step n s) r = net s r := by
  unfold net step
  with_reducible rfl

variable (s0 : State Ideal)

/-- The states the trips go through from `s0`. -/
def it : ℕ → State Ideal
  | 0 => s0
  | n + 1 => step n (it n)

/-- Every state carries the first one's network. -/
theorem net_it : ∀ (n : ℕ) (r : Fin 16384), net (it s0 n) r = net s0 r
  | 0, _ => rfl
  | n + 1, r => (net_step n (it s0 n) r).trans (net_it n r)

/-- After `n` trips the state holds the flow's row and log-determinant after `n` steps. -/
theorem it_eq (hx : ∀ r d, s0.main_v23_7 (ix2 r d) = (0 : EReal)) (hl : ∀ r, s0.main_v23_8 (ix1 r) = (0 : EReal)) :
    ∀ n : ℕ, n ≤ 64 → ∀ r : Fin 16384,
      (∀ d : Fin 64, (it s0 n).main_v23_7 (ix2 r d) = Flow.row (net s0 r) n d)
        ∧ (it s0 n).main_v23_8 (ix1 r) = Flow.logDet (net s0 r) n
  | 0, _, r => ⟨fun d => hx r d, hl r⟩
  | n + 1, hn, r => by
    obtain ⟨ihx, ihl⟩ := it_eq hx hl n (by omega) r
    have hacc : acc (it s0 n) r = Flow.pre (net s0 r) (Flow.row (net s0 r) n) := by
      unfold acc
      rw [net_it]
      exact congrArg (Flow.pre (net s0 r)) (funext ihx)
    have ex := x_at ⟨n, by omega⟩ (it s0 n) r
    have el := ld_at ⟨n, by omega⟩ (it s0 n) r
    rw [hacc, net_it] at el
    refine ⟨fun d => ?_, ?_⟩
    · refine (ex d).trans ?_
      rw [hacc, net_it, ihx]
      exact (Flow.row_succ_set (net s0 r) ⟨n, by omega⟩ d).symm
    · refine el.trans ?_
      rw [ihl]
      exact (Flow.logDet_succ (net s0 r) ⟨n, by omega⟩).symm

/-- The word of `h`'s degree. -/
theorem degree_at : ∀ h : Fin 1024, IntOp.remsi ArithUnit.host (BitVec.ofNat 32 h.val) 63#32 = BitVec.ofNat 32 (h.val % 63) := by
  decide +kernel

/-- A bit, read as a number, is one or zero. -/
theorem uitofp_bit (b : Prop) [Decidable b] :
    FloatOps.uitofp (F := Ideal) FTy.f32 (BitVec.ofBool (decide b)) = (if b then (1 : EReal) else 0) := by
  by_cases h : b
  · rw [decide_eq_true h, if_pos h]
    show (((1 : ℕ) : ℝ) : EReal) = 1
    simp
  · rw [decide_eq_false h, if_neg h]
    show (((0 : ℕ) : ℝ) : EReal) = 0
    simp

/-- The first mask as the reference computes it. -/
theorem mask1_at (h : Fin 1024) (d : Fin 64) : K_main_v9 (F := Ideal) (ix2 h d) = Flow.mask1 h d := by
  pointwise [K_main_v9, K_main_v8, K_main_v7, K_main_v6, K_main_v5, K_main_v4, K_main_v3, K_main_v2, K_main_v1, K_main_v0, K_main_c]
  rw [degree_at]
  have e1 : (BitVec.ofNat 32 d.val).toInt = (d.val : Int) := StableHlo.Predicate.toInt_ofNat_small _ (by omega)
  have e2 : (BitVec.ofNat 32 (h.val % 63)).toInt = ((h.val % 63 : ℕ) : Int) := StableHlo.Predicate.toInt_ofNat_small _ (by omega)
  show FloatOps.uitofp FTy.f32 (BitVec.ofBool (decide ((BitVec.ofNat 32 d.val).toInt ≤ (BitVec.ofNat 32 (h.val % 63)).toInt))) = _
  rw [e1, e2, uitofp_bit]
  unfold Flow.mask1
  simp only [Int.ofNat_le]

/-- The second mask as the reference computes it. -/
theorem mask2_at (o : Fin 128) (h : Fin 1024) : K_main_v17 (F := Ideal) (ix2 o h) = Flow.mask2 o h := by
  pointwise [K_main_v17, K_main_v16, K_main_v15, K_main_v14, K_main_v13, K_main_v12, K_main_v11, K_main_v10, K_main_v3, K_main_v2, K_main_v1, K_main_v0, K_main_c]
  rw [degree_at]
  have e1 : (BitVec.ofNat 32 (o.val / 2)).toInt = ((o.val / 2 : ℕ) : Int) := StableHlo.Predicate.toInt_ofNat_small _ (by omega)
  have e2 : (BitVec.ofNat 32 (h.val % 63)).toInt = ((h.val % 63 : ℕ) : Int) := StableHlo.Predicate.toInt_ofNat_small _ (by omega)
  show FloatOps.uitofp FTy.f32 (BitVec.ofBool (decide ((BitVec.ofNat 32 (h.val % 63)).toInt < (BitVec.ofNat 32 (o.val / 2)).toInt))) = _
  rw [e1, e2, uitofp_bit]
  unfold Flow.mask2
  simp only [Int.ofNat_lt]

variable (a0 : FVec Ideal S16384x64 .f32) (a1 : FVec Ideal S1024x64 .f32) (a2 : FVec Ideal S1024 .f32)
  (a3 : FVec Ideal S128x1024 .f32) (a4 : FVec Ideal S128 .f32)

/-- The network that row `r` of the batch meets, of the five arguments. -/
def netOf (r : Fin 16384) : Flow.Net :=
  Flow.masked (fun d => a0 (ix2 r d)) (fun h d => a1 (ix2 h d)) (fun h => a2 (ix1 h)) (fun o h => a3 (ix2 o h))
    (fun o => a4 (ix1 o))

/-- The first state's network is that of the arguments. -/
theorem net_init (r : Fin 16384) : net (init a2 a4 a0 a1 a3) r = netOf a0 a1 a2 a3 a4 r := by
  unfold net netOf Flow.masked init
  congr 1
  · funext h d
    pointwise [A_main_v18]
    rw [mask1_at]
  · funext o h
    pointwise [A_main_v19]
    rw [mask2_at]

/-- The flow's row after every step and its log-determinant, as the states after 64 trips hold them. -/
theorem last (r : Fin 16384) :
    (∀ d : Fin 64, (it (init a2 a4 a0 a1 a3) 64).main_v23_7 (ix2 r d) = Flow.row (netOf a0 a1 a2 a3 a4 r) 64 d)
      ∧ (it (init a2 a4 a0 a1 a3) 64).main_v23_8 (ix1 r) = Flow.logDet (netOf a0 a1 a2 a3 a4 r) 64 := by
  rw [← net_init]
  refine it_eq _ (fun r d => ?_) (fun r => ?_) 64 le_rfl r
  · unfold init
    pointwise [K_main_v20, K_main_cst]
  · unfold init
    pointwise [K_main_v21, K_main_cst_0]

/-- The first result: the row, infinite values replaced by zero. -/
theorem out_x (r : Fin 16384) (d : Fin 64) :
    R_main_v27 (it (init a2 a4 a0 a1 a3) 64) (ix2 r d) = Flow.clean (Flow.row (netOf a0 a1 a2 a3 a4 r) 64 d) := by
  rw [← (last a0 a1 a2 a3 a4 r).1 d]
  generalize it (init a2 a4 a0 a1 a3) 64 = s
  pointwise [R_main_v27]
  show Scalar.select _ (Ideal.ofBits .f32 0#32) _ = _
  rw [Ideal.ofBits_zero_f32]
  rfl

/-- The second result: the log-determinant, an infinite one replaced by zero. -/
theorem out_ld (r : Fin 16384) :
    R_main_v32 (it (init a2 a4 a0 a1 a3) 64) (ix2 r 0) = Flow.clean (Flow.logDet (netOf a0 a1 a2 a3 a4 r) 64) := by
  rw [← (last a0 a1 a2 a3 a4 r).2]
  generalize it (init a2 a4 a0 a1 a3) 64 = s
  pointwise [R_main_v32]
  show Scalar.select _ (Ideal.ofBits .f32 0#32) _ = _
  rw [Ideal.ofBits_zero_f32]
  rfl

end Cert.ReferenceIdeal.RefValue

end
-- ==== Proof.Equation.lean ====
/- The kernel and the reference side by side: their runs end with the same results, entry by entry, of arguments that agree. -/
module

public import proofs.«01_k».proof.Defs
public import proofs.«01_k».proof.Proof.KernelValue
public import proofs.«01_k».proof.Proof.RefValue
public import proofs.«01_k».proof.Proof.Gen.KernelIdeal
public import proofs.«01_k».proof.Proof.Gen.ReferenceIdeal
public import Idealize.ShloMosaic.Lib.Quiescent

@[expose] public section

set_option maxRecDepth 16384

noncomputable section

namespace Cert.Proof.Equation

open Idealize.ShloMosaic Idealize.ShloMosaic.TcCoe Idealize.SL.Sem Idealize.ShloMosaic.Pointwise

section Pure

variable (a0 : FVec Ideal Cert.ReferenceIdeal.S16384x64 .f32) (a1 : FVec Ideal Cert.ReferenceIdeal.S1024x64 .f32)
  (a2 : FVec Ideal Cert.ReferenceIdeal.S1024 .f32) (a3 : FVec Ideal Cert.ReferenceIdeal.S128x1024 .f32)
  (a4 : FVec Ideal Cert.ReferenceIdeal.S128 .f32)

/-- The reference's states, trip by trip. -/
abbrev states : ℕ → Cert.ReferenceIdeal.Trip.State Ideal :=
  Cert.ReferenceIdeal.RefValue.it (Cert.ReferenceIdeal.Trip.init a2 a4 a0 a1 a3)

/-- The reference's first result, as an array. -/
theorem refX : Cert.ReferenceIdeal.Trip.R_main_v27 (states a0 a1 a2 a3 a4 64)
    = fun j => Flow.clean (Flow.row (Cert.ReferenceIdeal.RefValue.netOf a0 a1 a2 a3 a4 (j 0)) 64 (j 1)) := by
  funext j
  idx_vars j
  exact Cert.ReferenceIdeal.RefValue.out_x a0 a1 a2 a3 a4 _ _

/-- The reference's second result, as an array. -/
theorem refL : Cert.ReferenceIdeal.Trip.R_main_v32 (states a0 a1 a2 a3 a4 64)
    = fun j => Flow.clean (Flow.logDet (Cert.ReferenceIdeal.RefValue.netOf a0 a1 a2 a3 a4 (j 0)) 64) := by
  funext j
  have hj : j = ix2 (j 0) 0 := by blk_ext []
  rw [hj]
  exact Cert.ReferenceIdeal.RefValue.out_ld a0 a1 a2 a3 a4 (j 0)

end Pure

/-- The reference's run: its arguments unchanged and every counter at zero. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Kernel and reference end with equal results. -/
theorem algebraic : Cert.algebraic_KernelIdeal_ReferenceIdeal := by
  intro m g m' g' _ hagree
  refine ⟨fun c => Cert.KernelIdeal.KernelValue.resX m c, fun c => Cert.KernelIdeal.KernelValue.resL m c, ?_, ?_⟩
  · refine (θ_run _ _ _).mono (fun _ h c => ⟨(h c).1.trans (Cert.KernelIdeal.KernelValue.final7 m c),
      (h c).2.1.trans (Cert.KernelIdeal.KernelValue.final8 m c), (h c).2.2⟩) (Cert.KernelIdeal.Value.run_blocks (F := Ideal) m g)
  · have hrun := Cert.ReferenceIdeal.TripRun.run_iter (F := Ideal) m' g'
      (fun c => Cert.ReferenceIdeal.RefValue.it (Cert.ReferenceIdeal.TripRun.initState m' c)) (fun _ => rfl) (fun _ _ => rfl)
    refine (θ_run _ _ _).mono (fun _ h c => ⟨(h c).1.trans ?_, (h c).2.1.trans ?_, (h c).2.2⟩) hrun
    · obtain ⟨e0, e1, e2, e3, e4⟩ := hagree c
      refine (refX _ _ _ _ _).trans ?_
      rw [e0, e1, e2, e3, e4]
      rfl
    · obtain ⟨e0, e1, e2, e3, e4⟩ := hagree c
      refine (refL _ _ _ _ _).trans ?_
      rw [e0, e1, e2, e3, e4]
      rfl

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate, with the witnesses of the programs' stated facts. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, Equation.frame_reference, trivial,
    Equation.algebraic⟩

end Cert.Proof

end
